-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩

class Facts : Prop where
  reducesTo_S8x19x512x512_S8x512x512_d1 : S8x19x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  natLt_1_32 : 1 < 32
  bcast_S_S8x19x512x512 : S_.BroadcastsInDim S8x19x512x512 (![] : Fin 0 → Fin S8x19x512x512.rank)
  bcast_S_S8x512x512 : S_.BroadcastsInDim S8x512x512 (![] : Fin 0 → Fin S8x512x512.rank)

variable [Facts]

def fn_part1 {F : FTy → Type} [FloatOps F] (main_arg1 : IVec S8x512x512 32) (main_v10 : IVec S8x512x512 32) (main_v15 : IVec S8x512x512 32) (main_v18 : IVec S8x19x512x512 1) (main_c_2 : IVec S_ 32) : IVec S8x19x512x512 1 × IVec S8x512x512 1 × IVec S8x512x512 1 :=
  let main_v19 : IVec S8x512x512 32 := broadcastInDim S8x512x512 ![] bcast_S_S8x512x512 main_c_2
  let main_v20 : IVec S8x512x512 1 := cmpi .sge main_arg1 main_v19
  let main_c_3 : IVec S_ 32 := constantI S_ 32 19#32
  let main_v21 : IVec S8x512x512 32 := broadcastInDim S8x512x512 ![] bcast_S_S8x512x512 main_c_3
  let main_v22 : IVec S8x512x512 1 := cmpi .slt main_arg1 main_v21
  let main_v23 : IVec S8x512x512 1 := andi main_v20 main_v22
  let main_c_4 : IVec S_ 32 := constantI S_ 32 0#32
  let main_v24 : IVec S8x512x512 32 := broadcastInDim S8x512x512 ![] bcast_S_S8x512x512 main_c_4
  let main_v25 : IVec S8x512x512 1 := cmpi .eq main_v10 main_v24
  let main_c_5 : IVec S_ 32 := constantI S_ 32 0#32
  let main_v26 : IVec S8x512x512 32 := broadcastInDim S8x512x512 ![] bcast_S_S8x512x512 main_c_5
  let main_v27 : IVec S8x512x512 1 := cmpi .eq main_v15 main_v26
  let main_v28 : IVec S8x512x512 1 := ori main_v25 main_v27
  (main_v18, main_v23, main_v28)

def fn {F : FTy → Type} [FloatOps F] (main_arg0 : FVec F S8x19x512x512 .f32) (main_arg1 : IVec S8x512x512 32) : IVec S8x19x512x512 1 × IVec S8x512x512 1 × IVec S8x512x512 1 :=
  let main_cst : FVec F S_ .f32 := constant S_ .f32 0xFF800000#32
  let main_v0 : FVec F S8x512x512 .f32 := (fun x v => Host.reduce FloatOps.maximumf x v reducesTo_S8x19x512x512_S8x512x512_d1 h_S_) main_arg0 main_cst
  let main_v1 : FVec F S8x1x512x512 .f32 := broadcastInDim S8x1x512x512 ![0, 2, 3] bcast_S8x512x512_S8x1x512x512_0_2_3 main_v0
  let main_v2 : FVec F S8x19x512x512 .f32 := broadcastInDim S8x19x512x512 ![0, 1, 2, 3] bcast_S8x1x512x512_S8x19x512x512_0_1_2_3 main_v1
  let main_v3 : IVec S8x19x512x512 1 := cmpf .oeq main_arg0 main_v2
  let main_v4 : IVec S8x19x512x512 32 := iotaInDim S8x19x512x512 32 1
  let main_v5 : IVec S8x1x512x512 32 := broadcastInDim S8x1x512x512 ![0, 2, 3] bcast_S8x512x512_S8x1x512x512_0_2_3 main_arg1
  let main_v6 : IVec S8x19x512x512 32 := broadcastInDim S8x19x512x512 ![0, 1, 2, 3] bcast_S8x1x512x512_S8x19x512x512_0_1_2_3 main_v5
  let main_v7 : IVec S8x19x512x512 1 := cmpi .eq main_v4 main_v6
  let main_v8 : IVec S8x19x512x512 1 := andi main_v3 main_v7
  let main_v9 : IVec S8x19x512x512 32 := (extui 32 · natLt_1_32) main_v8
  let main_c : IVec S_ 32 := constantI S_ 32 0#32
  let main_v10 : IVec S8x512x512 32 := (fun x v => Host.reduce IntOp.addi x v reducesTo_S8x19x512x512_S8x512x512_d1 h_S_) main_v9 main_c
  let main_v11 : IVec S8x19x512x512 32 := broadcastInDim S8x19x512x512 ![0, 1, 2, 3] bcast_S8x1x512x512_S8x19x512x512_0_1_2_3 main_v5
  let main_v12 : IVec S8x19x512x512 1 := cmpi .slt main_v4 main_v11
  let main_v13 : IVec S8x19x512x512 1 := andi main_v3 main_v12
  let main_v14 : IVec S8x19x512x512 32 := (extui 32 · natLt_1_32) main_v13
  let main_c_0 : IVec S_ 32 := constantI S_ 32 0#32
  let main_v15 : IVec S8x512x512 32 := (fun x v => Host.reduce IntOp.addi x v reducesTo_S8x19x512x512_S8x512x512_d1 h_S_) main_v14 main_c_0
  let main_v16 : FVec F S8x19x512x512 .f32 := Host.absf main_arg0
  let main_cst_1 : FVec F S_ .f32 := constant S_ .f32 0x7F800000#32
  let main_v17 : FVec F S8x19x512x512 .f32 := broadcastInDim S8x19x512x512 ![] bcast_S_S8x19x512x512 main_cst_1
  let main_v18 : IVec S8x19x512x512 1 := cmpf .olt main_v16 main_v17
  let main_c_2 : IVec S_ 32 := constantI S_ 32 0#32
  fn_part1 (F := F) main_arg1 main_v10 main_v15 main_v18 main_c_2
-- ==== Kernel.lean ====
abbrev S8x19x512x512 : Shape := ⟨4, ![8, 19, 512, 512]⟩
abbrev S8x512x512 : Shape := ⟨3, ![8, 512, 512]⟩
abbrev S1x1 : Shape := ⟨2, ![1, 1]⟩
abbrev S1x19x64x512 : Shape := ⟨4, ![1, 19, 64, 512]⟩
abbrev S1x64x512 : Shape := ⟨3, ![1, 64, 512]⟩
abbrev S19x128 : Shape := ⟨2, ![19, 128]⟩
abbrev S64x512 : Shape := ⟨2, ![64, 512]⟩
abbrev S19x64x512 : Shape := ⟨3, ![19, 64, 512]⟩
abbrev S1x1x8x512 : Shape := ⟨4, ![1, 1, 8, 512]⟩
abbrev S8x512 : Shape := ⟨2, ![8, 512]⟩
abbrev S1 : Shape := ⟨1, ![1]⟩
abbrev S1x1x1 : Shape := ⟨3, ![1, 1, 1]⟩
abbrev S19x1 : Shape := ⟨2, ![19, 1]⟩
abbrev S1x19x1 : Shape := ⟨3, ![1, 19, 1]⟩

abbrev nBuf : Space → Nat
  | .hbm => 3
  | .vmem => 8
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S1x1, .f32⟩
  | .local _ .vmem, ⟨0, _⟩ => ⟨S1x19x64x512, .f32⟩
  | .local _ .vmem, ⟨1, _⟩ => ⟨S1x19x64x512, .f32⟩
  | .local _ .vmem, ⟨2, _⟩ => ⟨S1x64x512, .i32⟩
  | .local _ .vmem, ⟨3, _⟩ => ⟨S1x64x512, .i32⟩
  | .local _ .vmem, ⟨4, _⟩ => ⟨S1x1, .f32⟩
  | .local _ .vmem, ⟨5, _⟩ => ⟨S19x128, .f32⟩
  | .local _ .vmem, ⟨6, _⟩ => ⟨S64x512, .f32⟩
  | .local _ .vmem, ⟨7, _⟩ => ⟨S64x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32_1193 : BitVec 32 := 7#32
  let v2021 : BitVec 1 := Scalar.cmpi .eq arg0 c7_i32_1193
  let arg1 : BitVec 32 := BitVec.ofNat 32 (i 1).val
  let c7_i32_1194 : BitVec 32 := 7#32
  let v2022 : BitVec 1 := Scalar.cmpi .eq arg1 c7_i32_1194
  let v2023 : BitVec 1 := Scalar.andi v2021 v2022
  let v2024 : BitVec 32 := Scalar.extui v2023
  let c0_i32_1195 : BitVec 32 := 0#32
  let v2025 : BitVec 1 := Scalar.cmpi .ne v2024 c0_i32_1195
  v2025

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S19 : Shape := ⟨1, ![19]⟩
abbrev S2097152x1 : Shape := ⟨2, ![2097152, 1]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S8x512x512, .i1⟩
  | .hbm, ⟨8, _⟩ => ⟨S2097152, .i1⟩
  | .hbm, ⟨9, _⟩ => ⟨S2097152, .i32⟩
  | .hbm, ⟨10, _⟩ => ⟨S_, .i32⟩
  | .hbm, ⟨11, _⟩ => ⟨S19, .i32⟩
  | .hbm, ⟨12, _⟩ => ⟨S_, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S_, .i32⟩
  | .hbm, ⟨25, _⟩ => ⟨S2097152, .i32⟩
  | .hbm, ⟨26, _⟩ => ⟨S19, .i32⟩
  | .hbm, ⟨27, _⟩ => ⟨S19, .f32⟩
  | .hbm, ⟨28, _⟩ => ⟨S_, .f32⟩
  | .hbm, ⟨29, _⟩ => ⟨S19, .f32⟩
  | .hbm, ⟨30, _⟩ => ⟨S19, .i1⟩
  | .hbm, ⟨31, _⟩ => ⟨S_, .f32⟩
  | .hbm, ⟨32, _⟩ => ⟨S_, .f32⟩
  | .hbm, ⟨33, _⟩ => ⟨S19, .f32⟩
  | .hbm, ⟨34, _⟩ => ⟨S19, .f32⟩
  | .hbm, ⟨35, _⟩ => ⟨S2097152, .f32⟩
  | .hbm, ⟨36, _⟩ => ⟨S_, .f32⟩
  | .hbm, ⟨37, _⟩ => ⟨S19, .f32⟩
  | .hbm, ⟨38, _⟩ => ⟨S_, .i32⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S_, .i32⟩
  | .hbm, ⟨43, _⟩ => ⟨S2097152, .i32⟩
  | .hbm, ⟨44, _⟩ => ⟨S2097152, .i1⟩
  | .hbm, ⟨45, _⟩ => ⟨S_, .i32⟩
  | .hbm, ⟨46, _⟩ => ⟨S2097152, .i32⟩
  | .hbm, ⟨47, _⟩ => ⟨S2097152, .i32⟩
  | .hbm, ⟨48, _⟩ => ⟨S2097152, .i32⟩
  | .hbm, ⟨49, _⟩ => ⟨S2097152x1, .i32⟩
  | .hbm, ⟨50, _⟩ => ⟨S19, .f32⟩
  | .hbm, ⟨51, _⟩ => ⟨S_, .f32⟩
  | .hbm, ⟨52, _⟩ => ⟨S19, .f32⟩
  | .hbm, ⟨53, _⟩ => ⟨S19, .i1⟩
  | .hbm, ⟨54, _⟩ => ⟨S_, .f32⟩
  | .hbm, ⟨55, _⟩ => ⟨S_, .f32⟩
  | .hbm, ⟨56, _⟩ => ⟨S19, .f32⟩
  | .hbm, ⟨57, _⟩ => ⟨S19, .f32⟩
  | .hbm, ⟨58, _⟩ => ⟨S19, .f32⟩
  | .hbm, ⟨59, _⟩ => ⟨S_, .f32⟩
  | .hbm, ⟨60, _⟩ => ⟨S8x512x512, .f32⟩
  | .hbm, ⟨61, _⟩ => ⟨S_, .f32⟩
  | .hbm, ⟨62, _⟩ => ⟨S8x512x512, .f32⟩
  | .hbm, ⟨63, _⟩ => ⟨S8x512x512, .f32⟩
  | .hbm, ⟨64, _⟩ => ⟨S8x1x512x512, .f32⟩
  | .hbm, ⟨65, _⟩ => ⟨S8x19x512x512, .f32⟩
  | .hbm, ⟨66, _⟩ => ⟨S8x19x512x512, .f32⟩
  | .hbm, ⟨67, _⟩ => ⟨S8x19x512x512, .f32⟩
  | .hbm, ⟨68, _⟩ => ⟨S_, .f32⟩
  | .hbm, ⟨69, _⟩ => ⟨S8x512x512, .f32⟩
  | .hbm, ⟨70, _⟩ => ⟨S8x1x512x512, .f32⟩
  | .hbm, ⟨71, _⟩ => ⟨S8x1x512x512, .f32⟩
  | .hbm, ⟨72, _⟩ => ⟨S8x19x512x512, .f32⟩
  | .hbm, ⟨73, _⟩ => ⟨S8x19x512x512, .f32⟩
  | .hbm, ⟨74, _⟩ => ⟨S8x1x512x512, .i32⟩
  | .hbm, ⟨75, _⟩ => ⟨S_, .i32⟩
  | .hbm, ⟨76, _⟩ => ⟨S8x1x512x512, .i32⟩
  | .hbm, ⟨77, _⟩ => ⟨S8x1x512x512, .i1⟩
  | .hbm, ⟨78, _⟩ => ⟨S_, .i32⟩
  | .hbm, ⟨79, _⟩ => ⟨S8x1x512x512, .i32⟩
  | .hbm, ⟨80, _⟩ => ⟨S8x1x512x512, .i32⟩
  | .hbm, ⟨81, _⟩ => ⟨S8x1x512x512, .i32⟩
  | .hbm, ⟨82, _⟩ => ⟨S8x1x512x512x1, .i32⟩
  | .hbm, ⟨83, _⟩ => ⟨S1, .i32⟩
  | .hbm, ⟨84, _⟩ => ⟨S_, .i32⟩
  | .hbm, ⟨85, _⟩ => ⟨S8x1x512x512x1, .i32⟩
  | .hbm, ⟨86, _⟩ => ⟨S8x1x512x512x1, .i1⟩
  | .hbm, ⟨87, _⟩ => ⟨S1x1x1x1x1, .i32⟩
  | .hbm, ⟨88, _⟩ => ⟨S8x1x512x512x1, .i32⟩
  | .hbm, ⟨89, _⟩ => ⟨S8x1x512x512x1, .i1⟩
  | .hbm, ⟨90, _⟩ => ⟨S8x1x512x512x1, .i1⟩
  | .hbm, ⟨91, _⟩ => ⟨S_, .i1⟩
  | .hbm, ⟨92, _⟩ => ⟨S8x1x512x512, .i1⟩
  | .hbm, ⟨93, _⟩ => ⟨S8x1x512x512, .f32⟩
  | .hbm, ⟨94, _⟩ => ⟨S_, .f32⟩
  | .hbm, ⟨95, _⟩ => ⟨S8x1x512x512, .f32⟩
  | .hbm, ⟨96, _⟩ => ⟨S8x1x512x512, .f32⟩
  | .hbm, ⟨97, _⟩ => ⟨S8x512x512, .f32⟩
  | .hbm, ⟨98, _⟩ => ⟨S8x512x512, .f32⟩
  | .hbm, ⟨99, _⟩ => ⟨S_, .i32⟩
  | .hbm, ⟨100, _⟩ => ⟨S8x512x512, .i32⟩
  | .hbm, ⟨101, _⟩ => ⟨S8x512x512, .i1⟩
  | .hbm, ⟨102, _⟩ => ⟨S_, .i32⟩
  | .hbm, ⟨103, _⟩ => ⟨S8x512x512, .i32⟩
  | .hbm, ⟨104, _⟩ => ⟨S8x512x512, .i32⟩
  | .hbm, ⟨105, _⟩ => ⟨S8x512x512, .i32⟩
  | .hbm, ⟨106, _⟩ => ⟨S8x512x512x1, .i32⟩
  | .hbm, ⟨107, _⟩ => ⟨S8x512x512, .f32⟩
  | .hbm, ⟨108, _⟩ => ⟨S8x512x512, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1x1, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_c_6 : Ref sig .tc := ⟨.hbm, 38, rfl⟩
abbrev main_call3_v0 : Ref sig .tc := ⟨.hbm, 39, rfl⟩
abbrev main_call3_v1 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_c_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_call4_v0 : Ref sig .tc := ⟨.hbm, 55, rfl⟩
abbrev main_call4_v1 : Ref sig .tc := ⟨.hbm, 56, rfl⟩
abbrev main_v30 : Ref sig .tc := ⟨.hbm, 57, rfl⟩
abbrev main_v31 : Ref sig .tc := ⟨.hbm, 58, rfl⟩
abbrev main_call5_cst : Ref sig .tc := ⟨.hbm, 59, rfl⟩
abbrev main_call5_v0 : Ref sig .tc := ⟨.hbm, 60, rfl⟩
abbrev main_call5_cst_0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_v6 : Ref sig .tc := ⟨.hbm, 67, rfl⟩
abbrev main_call5_cst_1 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_v32 : Ref sig .tc := ⟨.hbm, 73, rfl⟩
abbrev main_v33 : Ref sig .tc := ⟨.hbm, 74, rfl⟩
abbrev main_call6_c : Ref sig .tc := ⟨.hbm, 75, rfl⟩
abbrev main_call6_v0 : Ref sig .tc := ⟨.hbm, 76, rfl⟩
abbrev main_call6_v1 : Ref sig .tc := ⟨.hbm, 77, rfl⟩
abbrev main_call6_c_0 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_call6_v5 : Ref sig .tc := ⟨.hbm, 82, rfl⟩
abbrev main_call6_c_1 : Ref sig .tc := ⟨.hbm, 83, rfl⟩
abbrev main_call6_c_2 : Ref sig .tc := ⟨.hbm, 84, rfl⟩
abbrev main_call6_v6 : Ref sig .tc := ⟨.hbm, 85, rfl⟩
abbrev main_call6_v7 : Ref sig .tc := ⟨.hbm, 86, rfl⟩
abbrev main_call6_v8 : Ref sig .tc := ⟨.hbm, 87, rfl⟩
abbrev main_call6_v9 : Ref sig .tc := ⟨.hbm, 88, rfl⟩
abbrev main_call6_v10 : Ref sig .tc := ⟨.hbm, 89, rfl⟩
abbrev main_call6_v11 : Ref sig .tc := ⟨.hbm, 90, rfl⟩
abbrev main_call6_c_3 : Ref sig .tc := ⟨.hbm, 91, rfl⟩
abbrev main_call6_v12 : Ref sig .tc := ⟨.hbm, 92, rfl⟩
abbrev main_call6_v13 : Ref sig .tc := ⟨.hbm, 93, rfl⟩
abbrev main_call6_cst : Ref sig .tc := ⟨.hbm, 94, rfl⟩
abbrev main_call6_v14 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_c_11 : Ref sig .tc := ⟨.hbm, 99, rfl⟩
abbrev main_v37 : Ref sig .tc := ⟨.hbm, 100, rfl⟩
abbrev main_v38 : Ref sig .tc := ⟨.hbm, 101, rfl⟩
abbrev main_c_12 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_13 : Ref sig .tc := ⟨.hbm, 109, rfl⟩
abbrev main_v45 : Ref sig .tc := ⟨.hbm, 110, rfl⟩
abbrev main_cst_14 : Ref sig .tc := ⟨.hbm, 111, rfl⟩
abbrev main_v46 : Ref sig .tc := ⟨.hbm, 112, rfl⟩
abbrev main_v47 : Ref sig .tc := ⟨.hbm, 113, rfl⟩

abbrev nD : Nat := 1
abbrev τ : Topo := Topo.v7x

variable {F : FTy → Type} [FloatOps F]
-- ==== Proof.Pieces.lean ====
/- What one grid point of the kernel stores, class by class.

   The kernel's body is written out once per class and once per strip of eight rows. Here the same stores are written
   with the class number and the strip number as variables, and shown to be the stores of the run. -/
module

public import proofs.«01_k».proof.Proof.Gen.KernelIdeal.Frame

@[expose] public section

noncomputable section

namespace Cert.KernelIdeal.Block

open Cert.KernelIdeal Cert.KernelIdeal.Gen Idealize.ShloMosaic Idealize.ShloMosaic.TcCoe Idealize.SL.Sem

variable {F : FTy → Type} [FloatOps F] [Named F]

section Strips

variable (arg2 : Memref sig .tc .vmem S1x19x64x512 .f32) (harg2 : arg2.IsWhole) (x0 : Vec F S1x19x64x512 .f32)

/-- Eight rows of one class lie inside the block. -/
theorem strip_inb {k s : ℕ} (hk : k < 19) (hs : s < 8) :
    ∀ a, (![0, k, 8 * s, 0] : Fin 4 → ℕ) a + S1x1x8x512.size a ≤ S1x19x64x512.size a := by
  intro a
  fin_cases a
  · exact Nat.le_refl 1
  · show k + 1 ≤ 19
    omega
  · show 8 * s + 8 ≤ 64
    omega
  · exact Nat.le_refl 512

/-- The load of the scores of class `k` in rows `8 s` to `8 s + 7`. -/
def strip (k s : ℕ) (hk : k < 19) (hs : s < 8) : Vec F S1x1x8x512 .f32 :=
  View.readAt (Elt F) arg2.view (Rect.unit (s := S1x19x64x512) ![0, k, 8 * s, 0] S1x1x8x512.size (strip_inb hk hs)).toLoadRect
    (harg2.unread x0)

/-- The same as a rectangle of rows and columns. -/
def flat (k s : ℕ) (hk : k < 19) (hs : s < 8) : FVec F S8x512 .f32 :=
  shapeCast S8x512 (strip arg2 harg2 x0 k s hk hs) shapeCasts_S1x1x8x512_S8x512

/-- The maximum over classes `0` to `k`, in strip `s`. -/
def mxTo (s : ℕ) (hs : s < 8) : (k : ℕ) → k < 19 → FVec F S8x512 .f32
  | 0, h => flat arg2 harg2 x0 0 s h hs
  | k + 1, h => maximumf (mxTo s hs k (Nat.lt_of_succ_lt h)) (flat arg2 harg2 x0 (k + 1) s h hs)

/-- The exponential of the scores of class `k` in strip `s`, taken in base two. -/
def expo (k s : ℕ) (hk : k < 19) (hs : s < 8) : FVec F S8x512 .f32 :=
  exp2 (mulf (flat arg2 harg2 x0 k s hk hs) (broadcast S8x512 (Named.named κ "log2e" 0x3FB8AA3B#32)))

/-- The sum of the exponentials over classes `0` to `k`, in strip `s`. -/
def exTo (s : ℕ) (hs : s < 8) : (k : ℕ) → k < 19 → FVec F S8x512 .f32
  | 0, h => expo arg2 harg2 x0 0 s h hs
  | k + 1, h => addf (exTo s hs k (Nat.lt_of_succ_lt h)) (expo arg2 harg2 x0 (k + 1) s h hs)

/-- A strip lies inside the rectangle of the block's pixels. -/
theorem row_inb {s : ℕ} (hs : s < 8) : ∀ a, (![8 * s, 0] : Fin 2 → ℕ) a + S8x512.size a ≤ S64x512.size a := by
  intro a
  fin_cases a
  · show 8 * s + 8 ≤ 64
    omega
  · exact Nat.le_refl 512

/-- The stores of the maxima, the first `n` strips. -/
def mxPieces : (n : ℕ) → n ≤ 8 → List (View.Piece (Elt F) S64x512 .f32)
  | 0, _ => []
  | n + 1, h => ⟨Rect.unit (s := S64x512) ![8 * n, 0] S8x512.size (row_inb h),
      shapeCast S8x512 (mxTo arg2 harg2 x0 n h 18 (by decide)) shapeCasts_S8x512_S8x512⟩ :: mxPieces n (Nat.le_of_succ_le h)

/-- The logarithm of the sum of exponentials of strip `s`, as the kernel scales it. -/
def lse (s : ℕ) (hs : s < 8) : FVec F S8x512 .f32 :=
  mulf (mulf (log (exTo arg2 harg2 x0 s hs 18 (by decide))) (broadcast S8x512 (Named.named κ "log2e" 0x3FB8AA3B#32)))
    (broadcast S8x512 (Named.named κ "ln2" 0x3F317218#32))

/-- The stores of the logarithms, the first `n` strips. -/
def uPieces : (n : ℕ) → n ≤ 8 → List (View.Piece (Elt F) S64x512 .f32)
  | 0, _ => []
  | n + 1, h => ⟨Rect.unit (s := S64x512) ![8 * n, 0] S8x512.size (row_inb h),
      shapeCast S8x512 (lse arg2 harg2 x0 n h) shapeCasts_S8x512_S8x512⟩ :: uPieces n (Nat.le_of_succ_le h)

end Strips

section Classes

/-- One class is a slice of the scores. -/
theorem class_slices {k : ℕ} (hk : k < 19) : S19x64x512.Slices ![k, 0, 0] S1x64x512 := by
  refine ⟨rfl, fun a => ?_⟩
  fin_cases a
  · show k + 1 ≤ 19
    omega
  · exact Nat.le_refl 64
  · exact Nat.le_refl 512

variable (x : FVec F S19x64x512 .f32) (t : IVec S64x512 32) (mx u : Vec F S64x512 .f32)

/-- The scores of class `k`. -/
def cls (k : ℕ) (hk : k < 19) : FVec F S64x512 .f32 :=
  shapeCast S64x512 (extractStridedSlice S1x64x512 ![k, 0, 0] x (class_slices hk)) shapeCasts_S1x64x512_S64x512

/-- Where the target is class `k`. -/
def msk (k : ℕ) : IVec S64x512 1 := cmpi .eq t (broadcast S64x512 (BitVec.ofNat 32 k))

/-- The word added for each pixel: `65536` for a pixel of class `k`, and one more where the class has the top score. -/
def word (k : ℕ) (hk : k < 19) : IVec S64x512 32 :=
  select (msk t k) (select (cmpf .oeq (cls x k hk) mx) (broadcast S64x512 65537#32) (broadcast S64x512 65536#32))
    (broadcast S64x512 0#32)

/-- The sum of those words over the block. -/
def words (k : ℕ) (hk : k < 19) : IVec S1x1 32 :=
  broadcast S1x1 (extractAt ![0, 0, 0] (shapeCast S1x1x1 (multiReductionI .add [1, 2] S1
    (shapeCast S1x64x512 (word x t mx k hk) shapeCasts_S64x512_S1x64x512) 0#32 reduces_S1x64x512_S1 rfl) shapeCasts_S1_S1x1x1)
    inpos_S1x1x1_p0_0_0)

/-- The loss of each pixel of class `k`, zero elsewhere. -/
def loss (k : ℕ) (hk : k < 19) : FVec F S64x512 .f32 :=
  select (msk t k) (subf u (cls x k hk)) (broadcast S64x512 (Scalar.ofBits .f32 0x00000000#32))

/-- The sum of those losses over the block. -/
def losses (k : ℕ) (hk : k < 19) : FVec F S1x1 .f32 :=
  broadcast S1x1 (extractAt ![0, 0, 0] (shapeCast S1x1x1 (multiReduction .add [1, 2] S1
    (shapeCast S1x64x512 (loss x t u k hk) shapeCasts_S64x512_S1x64x512) 0x00000000#32 reduces_S1x64x512_S1 (.inl rfl) rfl)
    shapeCasts_S1_S1x1x1) inpos_S1x1x1_p0_0_0)

/-- What is stored for class `k` in column `j` over the value `ld` that was there: the pixels of the class, those of
    them where the class has the top score, and the loss of the class. -/
def stored (j k : ℕ) (hk : k < 19) (ld : Vec F S1x1 .f32) : FVec F S1x1 .f32 :=
  match j with
  | 0 => shapeCast S1x1 (addf ld (sitofp .f32 (andi (shrsi (words x t mx k hk) (broadcast S1x1 16#32)) (broadcast S1x1 65535#32)))) shapeCasts_S1x1_S1x1
  | 1 => shapeCast S1x1 (addf ld (sitofp .f32 (andi (words x t mx k hk) (broadcast S1x1 65535#32)))) shapeCasts_S1x1_S1x1
  | _ => shapeCast S1x1 (addf ld (losses x t u k hk)) shapeCasts_S1x1_S1x1

/-- The place of the store number `n`: row `n / 3`, column `n % 3`. -/
theorem cell_inb {n : ℕ} (hn : n < 57) : ∀ a, (![n / 3, n % 3] : Fin 2 → ℕ) a + S1x1.size a ≤ S19x128.size a := by
  intro a
  fin_cases a
  · show n / 3 + 1 ≤ 19
    omega
  · show n % 3 + 1 ≤ 128
    omega

/-- The rectangle of the store number `n`. -/
abbrev cell (n : ℕ) (hn : n < 57) : Rect S19x128 := Rect.unit (s := S19x128) ![n / 3, n % 3] S1x1.size (cell_inb hn)

/-- The first `n` stores into the accumulator over the pieces `L₀`, where `ld` is what a store finds at its place. -/
def accPieces (L₀ : List (View.Piece (Elt F) S19x128 .f32))
    (ld : (n : ℕ) → n < 57 → List (View.Piece (Elt F) S19x128 .f32) → Vec F S1x1 .f32) :
    (n : ℕ) → n ≤ 57 → List (View.Piece (Elt F) S19x128 .f32)
  | 0, _ => L₀
  | n + 1, h =>
    ⟨cell n h, stored x t mx u (n % 3) (n / 3) (Nat.div_lt_of_lt_mul h) (ld n h (accPieces L₀ ld n (Nat.le_of_succ_le h)))⟩
      :: accPieces L₀ ld n (Nat.le_of_succ_le h)

end Classes

section Runs

variable (c : Dev nD) (i : grid0.Coords)
  (arg2 : Memref sig .tc .vmem S1x19x64x512 .f32) (harg2 : arg2.IsWhole)
  (arg3 : Memref sig .tc .vmem S1x64x512 .i32) (harg3 : arg3.IsWhole)
  (arg4 : Memref sig .tc .vmem S1x1 .f32) (harg4 : arg4.IsWhole)
  (arg5 : Memref sig .tc .vmem S19x128 .f32) (harg5 : arg5.IsWhole)
  (arg6 : Memref sig .tc .vmem S64x512 .f32) (harg6 : arg6.IsWhole)
  (arg7 : Memref sig .tc .vmem S64x512 .f32) (harg7 : arg7.IsWhole)
  (x0 : Vec F S1x19x64x512 .f32) (x1 : Vec F S1x64x512 .i32) (xs0 : Vec F S19x128 .f32)

/-- The scores of the block. -/
def scores : FVec F S19x64x512 .f32 :=
  k0_pay6 (View.readAt (Elt F) arg2.view (Rect.unit (s := S1x19x64x512) ![0, 0, 0, 0] S1x19x64x512.size inb_S1x19x64x512_S1x19x64x512_0_0_0_0).toLoadRect (harg2.unread x0))

/-- The targets of the block. -/
def targets : IVec S64x512 32 :=
  k0_pay7 (F := F) (View.readAt (Elt F) arg3.view (Rect.unit (s := S1x64x512) ![0, 0, 0] S1x64x512.size inb_S1x64x512_S1x64x512_0_0_0).toLoadRect (harg3.unread x1))

/-- The whole rectangle of pixels. -/
abbrev wholeR : Rect S64x512 := Rect.unit (s := S64x512) ![0, 0] S64x512.size inb_S64x512_S64x512_0_0

/-- The maxima of the block, read back. -/
def maxima : Vec F S64x512 .f32 := arg6.view.readCov (mxPieces arg2 harg2 x0 8 (Nat.le_refl 8)) wholeR.toLoadRect

/-- The logarithms of the block, read back. -/
def logs : Vec F S64x512 .f32 := arg7.view.readCov (uPieces arg2 harg2 x0 8 (Nat.le_refl 8)) wholeR.toLoadRect

/-- What a store finds that comes over what the point before left. -/
def ldKept (n : ℕ) (hn : n < 57) (_ : List (View.Piece (Elt F) S19x128 .f32)) : Vec F S1x1 .f32 :=
  View.readAt (Elt F) arg5.view (cell n hn).toLoadRect (harg5.unread xs0)

/-- What a store finds that comes over the stores before it. -/
def ldFresh (n : ℕ) (hn : n < 57) (L : List (View.Piece (Elt F) S19x128 .f32)) : Vec F S1x1 .f32 :=
  arg5.view.readCov L (cell n hn).toLoadRect

/-- The zero fill of the first point. -/
def zeroFill : List (View.Piece (Elt F) S19x128 .f32) :=
  [⟨Rect.unit (s := S19x128) ![0, 0] S19x128.size inb_S19x128_S19x128_0_0, k0_pay5⟩]

set_option maxRecDepth 65536 in
/-- The stores of a point between the first and the last into the accumulator. -/
theorem accB (hc0 : ¬cond0_0 i) (hc1 : ¬cond0_1 i) :
    (kernelRun0_B c i arg2 harg2 arg3 harg3 arg4 harg4 arg5 harg5 arg6 harg6 arg7 harg7 hc0 hc1 x0 x1 xs0).2.1
      = accPieces (scores arg2 harg2 x0) (targets (F := F) arg3 harg3 x1) (maxima arg2 harg2 arg6 x0) (logs arg2 harg2 arg7 x0)
          [] (ldKept arg5 harg5 xs0) 57 (Nat.le_refl 57) := by
  unfold kernelRun0_B
  dsimp only
  rfl

set_option maxRecDepth 65536 in
/-- The stores of the last point into the accumulator. -/
theorem accC (hc0 : ¬cond0_0 i) (hc1 : cond0_1 i) :
    (kernelRun0_C c i arg2 harg2 arg3 harg3 arg4 harg4 arg5 harg5 arg6 harg6 arg7 harg7 hc0 hc1 x0 x1 xs0).2.1
      = accPieces (scores arg2 harg2 x0) (targets (F := F) arg3 harg3 x1) (maxima arg2 harg2 arg6 x0) (logs arg2 harg2 arg7 x0)
          [] (ldKept arg5 harg5 xs0) 57 (Nat.le_refl 57) := by
  unfold kernelRun0_C
  dsimp only
  rfl

set_option maxRecDepth 65536 in
/-- The stores of the first point into the accumulator. -/
theorem accA (hc0 : cond0_0 i) (hc1 : ¬cond0_1 i) :
    (kernelRun0_A c i arg2 harg2 arg3 harg3 arg4 harg4 arg5 harg5 arg6 harg6 arg7 harg7 hc0 hc1 x0 x1).2.1
      = accPieces (scores arg2 harg2 x0) (targets (F := F) arg3 harg3 x1) (maxima arg2 harg2 arg6 x0) (logs arg2 harg2 arg7 x0)
          zeroFill (ldFresh arg5) 57 (Nat.le_refl 57) := by
  unfold kernelRun0_A
  dsimp only
  sl_kernel_rfl

set_option maxRecDepth 65536 in
/-- The store of the last point into the result: the closing computation on the three columns of the accumulator. -/
theorem outC (hc0 : ¬cond0_0 i) (hc1 : cond0_1 i) :
    (kernelRun0_C c i arg2 harg2 arg3 harg3 arg4 harg4 arg5 harg5 arg6 harg6 arg7 harg7 hc0 hc1 x0 x1 xs0).1
      = [⟨Rect.unit (s := S1x1) ![0, 0] ![1, 1] inb_S1x1_S1x1_0_0,
          k0_pay4
            (arg5.view.readCov (kernelRun0_C c i arg2 harg2 arg3 harg3 arg4 harg4 arg5 harg5 arg6 harg6 arg7 harg7 hc0 hc1 x0 x1 xs0).2.1
              (Rect.unit (s := S19x128) ![0, 0] ![19, 1] inb_S19x128_S19x1_0_0).toLoadRect)
            (arg5.view.readCov (kernelRun0_C c i arg2 harg2 arg3 harg3 arg4 harg4 arg5 harg5 arg6 harg6 arg7 harg7 hc0 hc1 x0 x1 xs0).2.1
              (Rect.unit (s := S19x128) ![0, 1] ![19, 1] inb_S19x128_S19x1_0_1).toLoadRect)
            (arg5.view.readCov (kernelRun0_C c i arg2 harg2 arg3 harg3 arg4 harg4 arg5 harg5 arg6 harg6 arg7 harg7 hc0 hc1 x0 x1 xs0).2.1
              (Rect.unit (s := S19x128) ![0, 2] ![19, 1] inb_S19x128_S19x1_0_2).toLoadRect)⟩] := by
  unfold kernelRun0_C
  dsimp only
  rfl

end Runs

end Cert.KernelIdeal.Block
-- ==== Proof.Cells.lean ====
/- What the accumulator and the two planes of the block hold after one grid point, element by element. -/
module

public import proofs.«01_k».proof.Proof.Pieces
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem

variable {F : FTy → Type} [FloatOps F] [Named F]

section Accumulator

variable (x : FVec F S19x64x512 .f32) (t : IVec S64x512 32) (mx u : Vec F S64x512 .f32)
  (L₀ : List (View.Piece (Elt F) S19x128 .f32))
  (ld : (n : ℕ) → n < 57 → List (View.Piece (Elt F) S19x128 .f32) → Vec F S1x1 .f32)

/-- The element of the accumulator that store number `k` writes. -/
def place (k : ℕ) (hk : k < 57) : S19x128.Idx :=
  ix2 ⟨k / 3, by omega⟩ ⟨k % 3, by omega⟩

/-- A store's rectangle is its one element. -/
theorem cell_emb (k : ℕ) (hk : k < 57) (y : S1x1.Idx) : (cell k hk).emb y = place k hk := by
  funext a
  fin_cases a
  · refine Fin.ext ?_
    show k / 3 + 1 * (y 0).val = k / 3
    have h : (y 0).val < 1 := (y 0).isLt
    omega
  · refine Fin.ext ?_
    show k % 3 + 1 * (y 1).val = k % 3
    have h : (y 1).val < 1 := (y 1).isLt
    omega

/-- Two stores write different elements. -/
theorem place_not_mem {k n : ℕ} (hk : k < 57) (hn : n < 57) (h : k ≠ n) : place k hk ∉ (cell n hn).set := by
  intro hm
  obtain ⟨y, hy⟩ := (cell n hn).exists_idx_of_mem hm
  have he : place n hn = place k hk := (cell_emb n hn y).symm.trans hy
  have h0 : n / 3 = k / 3 := congrArg (fun i : S19x128.Idx => (i 0).val) he
  have h1 : n % 3 = k % 3 := congrArg (fun i : S19x128.Idx => (i 1).val) he
  omega

/-- An element whose store has not come yet holds what it held before. -/
theorem canon_later (n : ℕ) (hn : n ≤ 57) (k : ℕ) (hk : k < 57) (h : n ≤ k) :
    View.canon (accPieces x t mx u L₀ ld n hn) (place k hk) = View.canon L₀ (place k hk) := by
  induction n with
  | zero => rfl
  | succ n ih =>
    have hne : k ≠ n := by omega
    have hm : place k hk ∉ (cell n hn).set := place_not_mem hk hn hne
    have hle : n ≤ k := by omega
    exact (View.canon_cons_of_not_mem _ _ hm).trans (ih (Nat.le_of_succ_le hn) hle)

/-- An element holds what its store wrote. -/
theorem canon_place (n : ℕ) (hn : n ≤ 57) (k : ℕ) (hk : k < n) (hk' : k < 57) (h3 : k / 3 < 19) (hkn : k ≤ 57) :
    View.canon (accPieces x t mx u L₀ ld n hn) (place k hk')
      = stored x t mx u (k % 3) (k / 3) h3 (ld k hk' (accPieces x t mx u L₀ ld k hkn)) (ix2 0 0) := by
  induction n with
  | zero => exact absurd hk (Nat.not_lt_zero k)
  | succ n ih =>
    by_cases h : k = n
    · subst h
      rw [← cell_emb k hk' (ix2 0 0)]
      exact View.canon_cons_emb (cell k hk') _ _ _
    · have hm : place k hk' ∉ (cell n hn).set := place_not_mem hk' hn h
      have hlt : k < n := by omega
      exact (View.canon_cons_of_not_mem _ _ hm).trans (ih (Nat.le_of_succ_le hn) hlt)

/-- Every element of the three columns is written. -/
theorem cover_place (n : ℕ) (hn : n ≤ 57) (k : ℕ) (hk : k < n) (hk' : k < 57) :
    ∃ p ∈ accPieces x t mx u L₀ ld n hn, place k hk' ∈ p.1.set := by
  induction n with
  | zero => exact absurd hk (Nat.not_lt_zero k)
  | succ n ih =>
    by_cases h : k = n
    · subst h
      refine ⟨_, List.mem_cons_self, ?_⟩
      rw [← cell_emb k hk' (ix2 0 0)]
      exact (cell k hk').idx_mem _
    · have hlt : k < n := by omega
      obtain ⟨p, hp, hm⟩ := ih (Nat.le_of_succ_le hn) hlt
      exact ⟨p, List.mem_cons_of_mem _ hp, hm⟩

end Accumulator

end Cert.KernelIdeal.Block
-- ==== Proof.Planes.lean ====
/- The two planes a grid point fills: per pixel, the top score and the logarithm of the sum of exponentials. -/
module

public import proofs.«01_k».proof.Proof.Cells

@[expose] public section

noncomputable section

namespace Cert.KernelIdeal.Block

open Cert.KernelIdeal Cert.KernelIdeal.Gen Idealize.ShloMosaic Idealize.ShloMosaic.TcCoe Idealize.SL.Sem

/-- The largest of `f 0`, …, `f k`. -/
def topTo (f : ℕ → ℝ) : ℕ → ℝ
  | 0 => f 0
  | k + 1 => max (topTo f k) (f (k + 1))

/-- The largest is an upper bound. -/
theorem le_topTo (f : ℕ → ℝ) : ∀ (k i : ℕ), i ≤ k → f i ≤ topTo f k
  | 0, i, h => by
    obtain rfl : i = 0 := by omega
    exact le_refl _
  | k + 1, i, h => by
    rcases Nat.lt_or_ge i (k + 1) with hi | hi
    · exact (le_topTo f k i (by omega)).trans (le_max_left _ _)
    · obtain rfl : i = k + 1 := by omega
      exact le_max_right _ _

/-- The largest is one of them. -/
theorem topTo_mem (f : ℕ → ℝ) : ∀ k : ℕ, ∃ i, i ≤ k ∧ topTo f k = f i
  | 0 => ⟨0, le_refl _, rfl⟩
  | k + 1 => by
    obtain ⟨i, hi, he⟩ := topTo_mem f k
    rcases max_choice (topTo f k) (f (k + 1)) with h | h
    · exact ⟨i, by omega, h.trans he⟩
    · exact ⟨k + 1, le_refl _, h⟩

/-- The sum of the exponentials of `f 0`, …, `f k`. -/
def expTo (f : ℕ → ℝ) : ℕ → ℝ
  | 0 => Real.exp (f 0)
  | k + 1 => expTo f k + Real.exp (f (k + 1))

/-- The sum is positive. -/
theorem expTo_pos (f : ℕ → ℝ) : ∀ k, 0 < expTo f k
  | 0 => Real.exp_pos _
  | k + 1 => add_pos (expTo_pos f k) (Real.exp_pos _)

/-- The sum as a sum over a range. -/
theorem expTo_eq (f : ℕ → ℝ) : ∀ k, expTo f k = ∑ i ∈ Finset.range (k + 1), Real.exp (f i)
  | 0 => by simp [expTo]
  | k + 1 => by rw [expTo, expTo_eq f k, Finset.sum_range_succ _ (k + 1)]

/-- The constant the kernel multiplies scores by is `1 / log 2`. -/
theorem log2e_eq : (Named.named (F := Ideal) κ "log2e" (φ := .f32) 0x3FB8AA3B#32) = (((Real.log 2)⁻¹ : ℝ) : EReal) :=
  IdealRules.named_const.ideal_named_scalar _ _ _ _ rfl

/-- The constant the kernel multiplies logarithms by is `log 2`. -/
theorem ln2_eq : (Named.named (F := Ideal) κ "ln2" (φ := .f32) 0x3F317218#32) = ((Real.log 2 : ℝ) : EReal) :=
  IdealRules.named_const.ideal_named_scalar _ _ _ _ rfl

/-- A store of a strip, in the plane's own coordinates. -/
theorem row_emb (n : ℕ) (hn : n < 8) (y : S8x512.Idx) :
    (Rect.unit (s := S64x512) ![8 * n, 0] S8x512.size (row_inb hn)).emb y
      = ix2 ⟨8 * n + (y 0).val, by have h : (y 0).val < 8 := (y 0).isLt; omega⟩ (y 1) := by
  funext a
  fin_cases a
  · refine Fin.ext ?_
    show 8 * n + 1 * (y 0).val = 8 * n + (y 0).val
    omega
  · refine Fin.ext ?_
    show 0 + 1 * (y 1).val = (y 1).val
    omega

/-- A pixel whose row is in a strip is in the strip's rectangle. -/
theorem row_mem (n : ℕ) (hn : n < 8) (p : Fin 64) (q : Fin 512) (h : 8 * n ≤ p.val) (h' : p.val < 8 * (n + 1)) :
    (ix2 p q : S64x512.Idx) ∈ (Rect.unit (s := S64x512) ![8 * n, 0] S8x512.size (row_inb hn)).set := by
  have he : (ix2 p q : S64x512.Idx)
      = (Rect.unit (s := S64x512) ![8 * n, 0] S8x512.size (row_inb hn)).emb (ix2 (⟨p.val - 8 * n, by omega⟩ : Fin 8) q : S8x512.Idx) := by
    rw [row_emb n hn]
    funext a
    fin_cases a
    · refine Fin.ext ?_
      show p.val = 8 * n + (p.val - 8 * n)
      omega
    · rfl
  rw [he]
  exact (Rect.unit (s := S64x512) ![8 * n, 0] S8x512.size (row_inb hn)).idx_mem _

/-- The whole rectangle's own coordinates are the plane's. -/
theorem wholeR_emb (y : S64x512.Idx) : wholeR.emb y = y := by
  funext a
  fin_cases a
  · refine Fin.ext ?_
    show 0 + 1 * (y 0).val = (y 0).val
    omega
  · refine Fin.ext ?_
    show 0 + 1 * (y 1).val = (y 1).val
    omega

/-- The plane of the top scores. -/
def topPlane (X : ℕ → ℕ → ℕ → ℝ) : Vec Ideal S64x512 .f32 :=
  fun z => ((topTo (fun i => X i (z 0).val (z 1).val) 18 : ℝ) : EReal)

/-- The plane of the logarithms of the sums of exponentials. -/
def logPlane (X : ℕ → ℕ → ℕ → ℝ) : Vec Ideal S64x512 .f32 :=
  fun z => ((Real.log (expTo (fun i => X i (z 0).val (z 1).val) 18) : ℝ) : EReal)

section

variable (arg2 : Memref sig .tc .vmem S1x19x64x512 .f32) (harg2 : arg2.IsWhole) (x0 : Vec Ideal S1x19x64x512 .f32)
  (X : ℕ → ℕ → ℕ → ℝ) (hX : ∀ (k : Fin 19) (p : Fin 64) (q : Fin 512), x0 (ix4 0 k p q) = ((X k p q : ℝ) : EReal))

include hX

/-- The scores of a strip, element by element. -/
theorem flat_apply (k s : ℕ) (hk : k < 19) (hs : s < 8) (a : Fin 8) (q : Fin 512) :
    flat arg2 harg2 x0 k s hk hs (ix2 a q) = ((X k (8 * s + a) q : ℝ) : EReal) := by
  unfold flat strip
  rw [View.readAt_eq_ld, Memref.IsWhole.read_unread]
  pointwise
  exact hX ⟨k, hk⟩ ⟨8 * s + a, by omega⟩ q

/-- The maxima of a strip, element by element. -/
theorem mxTo_apply (s : ℕ) (hs : s < 8) (a : Fin 8) (q : Fin 512) : ∀ (k : ℕ) (hk : k < 19),
    mxTo arg2 harg2 x0 s hs k hk (ix2 a q) = ((topTo (fun i => X i (8 * s + a) q) k : ℝ) : EReal)
  | 0, hk => flat_apply arg2 harg2 x0 X hX 0 s hk hs a q
  | k + 1, hk => by
    show max (mxTo arg2 harg2 x0 s hs k _ (ix2 a q)) (flat arg2 harg2 x0 (k + 1) s hk hs (ix2 a q)) = _
    rw [mxTo_apply s hs a q k, flat_apply arg2 harg2 x0 X hX, topTo]
    exact (EReal.coe_strictMono.monotone.map_max).symm

/-- One exponential of a strip, element by element. -/
theorem expo_apply (k s : ℕ) (hk : k < 19) (hs : s < 8) (a : Fin 8) (q : Fin 512) :
    expo arg2 harg2 x0 k s hk hs (ix2 a q) = ((Real.exp (X k (8 * s + a) q) : ℝ) : EReal) := by
  show Ideal.exp2 (flat arg2 harg2 x0 k s hk hs (ix2 a q) * Named.named (F := Ideal) κ "log2e" (φ := .f32) 0x3FB8AA3B#32) = _
  rw [flat_apply arg2 harg2 x0 X hX, log2e_eq, ← EReal.coe_mul, Ideal.exp2_coe]
  refine congrArg _ ?_
  show (2 : ℝ) ^ (X k (8 * s + a) q * (Real.log 2)⁻¹) = _
  rw [Real.rpow_def_of_pos (by norm_num)]
  have h2 : Real.log 2 ≠ 0 := (Real.log_pos (by norm_num)).ne'
  field_simp

/-- The sums of exponentials of a strip, element by element. -/
theorem exTo_apply (s : ℕ) (hs : s < 8) (a : Fin 8) (q : Fin 512) : ∀ (k : ℕ) (hk : k < 19),
    exTo arg2 harg2 x0 s hs k hk (ix2 a q) = ((expTo (fun i => X i (8 * s + a) q) k : ℝ) : EReal)
  | 0, hk => expo_apply arg2 harg2 x0 X hX 0 s hk hs a q
  | k + 1, hk => by
    show exTo arg2 harg2 x0 s hs k _ (ix2 a q) + expo arg2 harg2 x0 (k + 1) s hk hs (ix2 a q) = _
    rw [exTo_apply s hs a q k, expo_apply arg2 harg2 x0 X hX, expTo, EReal.coe_add]

/-- The logarithms of a strip, element by element: the two constants cancel. -/
theorem lse_apply (s : ℕ) (hs : s < 8) (a : Fin 8) (q : Fin 512) :
    lse arg2 harg2 x0 s hs (ix2 a q) = ((Real.log (expTo (fun i => X i (8 * s + a) q) 18) : ℝ) : EReal) := by
  show Ideal.log (exTo arg2 harg2 x0 s hs 18 _ (ix2 a q)) * Named.named (F := Ideal) κ "log2e" (φ := .f32) 0x3FB8AA3B#32
    * Named.named (F := Ideal) κ "ln2" (φ := .f32) 0x3F317218#32 = _
  rw [exTo_apply arg2 harg2 x0 X hX, log2e_eq, ln2_eq, Ideal.log_coe, if_neg (not_le.2 (expTo_pos _ _)), ← EReal.coe_mul, ← EReal.coe_mul]
  have h2 : Real.log 2 ≠ 0 := (Real.log_pos (by norm_num)).ne'
  refine congrArg _ ?_
  field_simp

/-- The stores of the maxima agree with one function of the pixel. -/
theorem mxPieces_agree : ∀ (n : ℕ) (hn : n ≤ 8), ∀ p ∈ mxPieces arg2 harg2 x0 n hn, ∀ y : p.1.shape.Idx,
    p.2 y = topPlane X (p.1.emb y)
  | 0, _, p, hp, _ => absurd hp List.not_mem_nil
  | n + 1, hn, p, hp, y => by
    rcases List.mem_cons.mp hp with rfl | hp
    · refine Eq.trans ?_ (congrArg (topPlane X) (row_emb n hn y).symm)
      show shapeCast S8x512 (mxTo arg2 harg2 x0 n hn 18 (by decide)) shapeCasts_S8x512_S8x512 y = _
      obtain ⟨a, q, rfl⟩ : ∃ (a : Fin 8) (q : Fin 512), y = ix2 a q := ⟨y 0, y 1, eq_ix2 y⟩
      pointwise
      exact mxTo_apply arg2 harg2 x0 X hX n hn a q 18 _
    · exact mxPieces_agree n _ p hp y

/-- The stores of the logarithms agree with one function of the pixel. -/
theorem uPieces_agree : ∀ (n : ℕ) (hn : n ≤ 8), ∀ p ∈ uPieces arg2 harg2 x0 n hn, ∀ y : p.1.shape.Idx,
    p.2 y = logPlane X (p.1.emb y)
  | 0, _, p, hp, _ => absurd hp List.not_mem_nil
  | n + 1, hn, p, hp, y => by
    rcases List.mem_cons.mp hp with rfl | hp
    · refine Eq.trans ?_ (congrArg (logPlane X) (row_emb n hn y).symm)
      show shapeCast S8x512 (lse arg2 harg2 x0 n hn) shapeCasts_S8x512_S8x512 y = _
      obtain ⟨a, q, rfl⟩ : ∃ (a : Fin 8) (q : Fin 512), y = ix2 a q := ⟨y 0, y 1, eq_ix2 y⟩
      pointwise
      exact lse_apply arg2 harg2 x0 X hX n hn a q
    · exact uPieces_agree n _ p hp y

omit hX in
/-- The strips cover the rows. -/
theorem mxPieces_cover (p : Fin 64) (q : Fin 512) : ∀ (n : ℕ) (hn : n ≤ 8), p.val < 8 * n →
    ∃ r ∈ mxPieces arg2 harg2 x0 n hn, ix2 p q ∈ r.1.set
  | 0, _, h => by omega
  | n + 1, hn, h => by
    rcases Nat.lt_or_ge p.val (8 * n) with h' | h'
    · obtain ⟨r, hr, hm⟩ := mxPieces_cover p q n (Nat.le_of_succ_le hn) h'
      exact ⟨r, List.mem_cons_of_mem _ hr, hm⟩
    · refine ⟨_, List.mem_cons_self, ?_⟩
      exact row_mem n hn p q h' h

omit hX in
/-- The strips cover the rows. -/
theorem uPieces_cover (p : Fin 64) (q : Fin 512) : ∀ (n : ℕ) (hn : n ≤ 8), p.val < 8 * n →
    ∃ r ∈ uPieces arg2 harg2 x0 n hn, ix2 p q ∈ r.1.set
  | 0, _, h => by omega
  | n + 1, hn, h => by
    rcases Nat.lt_or_ge p.val (8 * n) with h' | h'
    · obtain ⟨r, hr, hm⟩ := uPieces_cover p q n (Nat.le_of_succ_le hn) h'
      exact ⟨r, List.mem_cons_of_mem _ hr, hm⟩
    · refine ⟨_, List.mem_cons_self, ?_⟩
      exact row_mem n hn p q h' h

/-- The plane of maxima at a pixel. -/
theorem maxima_apply (arg6 : Memref sig .tc .vmem S64x512 .f32) (p : Fin 64) (q : Fin 512) :
    maxima arg2 harg2 arg6 x0 (ix2 p q) = ((topTo (fun i => X i p q) 18 : ℝ) : EReal) := by
  unfold maxima
  rw [View.readCov_eq_canon']
  show View.canon _ (wholeR.emb (ix2 p q)) = _
  rw [wholeR_emb]
  exact View.canon_apply_of_pieces (topPlane X) _ (mxPieces_agree arg2 harg2 x0 X hX 8 _) (ix2 p q) (mxPieces_cover arg2 harg2 x0 p q 8 _ p.isLt)

/-- The plane of logarithms at a pixel. -/
theorem logs_apply (arg7 : Memref sig .tc .vmem S64x512 .f32) (p : Fin 64) (q : Fin 512) :
    logs arg2 harg2 arg7 x0 (ix2 p q) = ((Real.log (expTo (fun i => X i p q) 18) : ℝ) : EReal) := by
  unfold logs
  rw [View.readCov_eq_canon']
  show View.canon _ (wholeR.emb (ix2 p q)) = _
  rw [wholeR_emb]
  exact View.canon_apply_of_pieces (logPlane X) _ (uPieces_agree arg2 harg2 x0 X hX 8 _) (ix2 p q) (uPieces_cover arg2 harg2 x0 p q 8 _ p.isLt)

/-- The scores of one class at a pixel. -/
theorem cls_apply (k : ℕ) (hk : k < 19) (p : Fin 64) (q : Fin 512) :
    cls (scores arg2 harg2 x0) k hk (ix2 p q) = ((X k p q : ℝ) : EReal) := by
  unfold cls scores k0_pay6
  rw [View.readAt_eq_ld, Memref.IsWhole.read_unread]
  pointwise
  exact hX ⟨k, hk⟩ p q

end

end Cert.KernelIdeal.Block
-- ==== Proof.Stats.lean ====
/- The three numbers a grid point adds for a class: its pixels, its pixels with the top score, its loss. -/
module

public import proofs.«01_k».proof.Proof.Planes
public import Idealize.ShloMosaic.Lib.WordSum
public import Idealize.ShloMosaic.Lib.PackedFields

@[expose] public section

noncomputable section

namespace Cert.KernelIdeal.Block

open Cert.KernelIdeal Cert.KernelIdeal.Gen Idealize.ShloMosaic Idealize.ShloMosaic.TcCoe Idealize.SL.Sem

/-- The upper half of a word, as the kernel takes it out. -/
theorem hi_toInt (w : BitVec 32) :
    (IntOp.andi (IntOp.shrsi .vector w 16#32) 65535#32).toInt = ((w.toNat / 65536 : ℕ) : ℤ) := by
  have h : IntOp.andi (IntOp.shrsi .vector w 16#32) 65535#32 = w >>> 16 := by
    show (w.sshiftRight' 16#32) &&& 65535#32 = w >>> 16
    apply BitVec.eq_of_getLsbD_eq
    intro i hi
    rw [BitVec.getLsbD_and, BitVec.getLsbD_sshiftRight', BitVec.getLsbD_ushiftRight]
    have h65 : (65535#32 : BitVec 32).getLsbD i = decide (i < 16) := by
      have : ∀ i : Fin 32, (65535#32 : BitVec 32).getLsbD i = decide (i.val < 16) := by decide
      exact this ⟨i, hi⟩
    rw [h65]
    by_cases h : i < 16
    · have h2 : (16#32 : BitVec 32).toNat + i < 32 := by
        show 16 + i < 32
        omega
      have h3 : 16 + i < 32 := by omega
      have h4 : ¬ 32 ≤ i := by omega
      simp [h, h3, h4]
    · have h3 : w.getLsbD (16 + i) = false := BitVec.getLsbD_of_ge _ _ (by omega)
      simp [h, h3]
  rw [h, BitVec.toInt_eq_toNat_of_lt, BitVec.toNat_ushiftRight, Nat.shiftRight_eq_div_pow]
  rw [BitVec.toNat_ushiftRight, Nat.shiftRight_eq_div_pow]
  have := w.isLt
  omega

/-- The lower half of a word, as the kernel takes it out. -/
theorem lo_toInt (w : BitVec 32) : (IntOp.andi w 65535#32).toInt = ((w.toNat % 65536 : ℕ) : ℤ) := by
  have h : (IntOp.andi w 65535#32).toNat = w.toNat % 65536 := by
    show (w &&& 65535#32).toNat = _
    rw [BitVec.toNat_and]
    exact Nat.and_two_pow_sub_one_eq_mod w.toNat 16
  rw [BitVec.toInt_eq_toNat_of_lt (by rw [h]; omega), h]

/-- The one axis of the reduced shape has size one. -/
theorem one_S1 : ∀ b, S1.size b = 1 := by decide

/-- A finite sum of reals is the same taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A vector of one element, spread over another shape of one element, is read at one place. -/
theorem spread {α : Type} (v : S1.Idx → α) (y : S1x1.Idx) : ∃ j : S1.Idx,
    broadcast S1x1 (extractAt ![0, 0, 0] (shapeCast S1x1x1 v shapeCasts_S1_S1x1x1) inpos_S1x1x1_p0_0_0) y = v j := ⟨_, rfl⟩

/-- An integer sum over a block, as the kernel writes it, is the sum over rows and columns while that fits a word. -/
theorem total_words (src : IVec S64x512 32) (h : ∑ p : Fin 64, ∑ q : Fin 512, (src (ix2 p q)).toNat < 2 ^ 32) (y : S1x1.Idx) :
    (broadcast S1x1 (extractAt ![0, 0, 0] (shapeCast S1x1x1 (multiReductionI .add [1, 2] S1
      (shapeCast S1x64x512 src shapeCasts_S64x512_S1x64x512) 0#32 reduces_S1x64x512_S1 rfl) shapeCasts_S1_S1x1x1)
      inpos_S1x1x1_p0_0_0) y).toNat = ∑ p : Fin 64, ∑ q : Fin 512, (src (ix2 p q)).toNat := by
  obtain ⟨j, hj⟩ := spread (multiReductionI .add [1, 2] S1 (shapeCast S1x64x512 src shapeCasts_S64x512_S1x64x512) 0#32 reduces_S1x64x512_S1 rfl) y
  have hfil : (Finset.univ.filter fun i : S1x64x512.Idx => reduces_S1x64x512_S1.drop i = j) = Finset.univ := by
    refine Finset.filter_true_of_mem fun i _ => funext fun b => Fin.ext ?_
    have h1 := (reduces_S1x64x512_S1.drop i b).isLt
    have h2 := (j b).isLt
    have h3 := one_S1 b
    omega
  have hsum : (∑ i : S1x64x512.Idx, (shapeCast S1x64x512 src shapeCasts_S64x512_S1x64x512 i).toNat)
      = ∑ p : Fin 64, ∑ q : Fin 512, (src (ix2 p q)).toNat := by
    rw [sum_idx3, Fin.sum_univ_one]
    refine Finset.sum_congr rfl fun p _ => Finset.sum_congr rfl fun q _ => ?_
    pointwise
  refine (congrArg BitVec.toNat hj).trans ((WordSum.toNat_multiReductionI_add _ _ _ _ ?_).trans ?_)
  · rw [hfil, hsum]
    exact h
  · rw [hfil, hsum]

/-- A sum over a block, as the kernel writes it, is the sum over rows and columns. -/
theorem total_losses (src : FVec Ideal S64x512 .f32) (y : S1x1.Idx) :
    broadcast S1x1 (extractAt ![0, 0, 0] (shapeCast S1x1x1 (multiReduction .add [1, 2] S1
      (shapeCast S1x64x512 src shapeCasts_S64x512_S1x64x512) 0x00000000#32 reduces_S1x64x512_S1 (.inl rfl) rfl)
      shapeCasts_S1_S1x1x1) inpos_S1x1x1_p0_0_0) y = ∑ p : Fin 64, ∑ q : Fin 512, src (ix2 p q) := by
  obtain ⟨j, hj⟩ := spread (multiReduction (F := Ideal) (φ := .f32) .add [1, 2] S1 (shapeCast S1x64x512 src shapeCasts_S64x512_S1x64x512) 0x00000000#32 reduces_S1x64x512_S1 (.inl rfl) rfl) y
  refine hj.trans ((Ideal.multiReduction_add_total _ _ _ one_S1 _ _ j).trans ?_)
  rw [sum_idx3, Fin.sum_univ_one]
  refine Finset.sum_congr rfl fun p _ => Finset.sum_congr rfl fun q _ => ?_
  pointwise

section

variable (X : ℕ → ℕ → ℕ → ℝ) (T : ℕ → ℕ → ℕ) (k : ℕ)

/-- The pixels of class `k`. -/
def cnt : ℕ := ∑ p : Fin 64, ∑ q : Fin 512, if T p q = k then 1 else 0

/-- The pixels of class `k` where the class has the top score. -/
def hit : ℕ := ∑ p : Fin 64, ∑ q : Fin 512, if T p q = k ∧ X k p q = topTo (fun i => X i p q) 18 then 1 else 0

/-- The loss of class `k`. -/
def lossSum : ℝ := ∑ p : Fin 64, ∑ q : Fin 512, if T p q = k then Real.log (expTo (fun i => X i p q) 18) - X k p q else 0

/-- A block has 32768 pixels. -/
theorem cnt_le : cnt T k ≤ 32768 := by
  have h : cnt T k ≤ ∑ p : Fin 64, ∑ q : Fin 512, 1 := by
    refine Finset.sum_le_sum fun p _ => Finset.sum_le_sum fun q _ => ?_
    split <;> omega
  simpa using h

/-- The pixels with the top score are among the pixels of the class, at most 32768. -/
theorem hit_le : hit X T k ≤ 32768 := by
  have h : hit X T k ≤ ∑ p : Fin 64, ∑ q : Fin 512, 1 := by
    refine Finset.sum_le_sum fun p _ => Finset.sum_le_sum fun q _ => ?_
    split <;> omega
  simpa using h

/-- What is added in column `j` for class `k`. -/
def stat (j : ℕ) : ℝ :=
  match j with
  | 0 => cnt T k
  | 1 => hit X T k
  | _ => lossSum X T k

end

section

variable (arg2 : Memref sig .tc .vmem S1x19x64x512 .f32) (harg2 : arg2.IsWhole)
  (arg3 : Memref sig .tc .vmem S1x64x512 .i32) (harg3 : arg3.IsWhole)
  (arg6 arg7 : Memref sig .tc .vmem S64x512 .f32)
  (x0 : Vec Ideal S1x19x64x512 .f32) (x1 : Vec Ideal S1x64x512 .i32)
  (X : ℕ → ℕ → ℕ → ℝ) (hX : ∀ (k : Fin 19) (p : Fin 64) (q : Fin 512), x0 (ix4 0 k p q) = ((X k p q : ℝ) : EReal))
  (T : ℕ → ℕ → ℕ) (hT : ∀ (p : Fin 64) (q : Fin 512), x1 (ix3 0 p q) = BitVec.ofNat 32 (T p q) ∧ T p q < 19)

include hT in
/-- The targets at a pixel. -/
theorem targets_apply (p : Fin 64) (q : Fin 512) :
    targets (F := Ideal) arg3 harg3 x1 (ix2 p q) = BitVec.ofNat 32 (T p q) := by
  unfold targets k0_pay7
  rw [View.readAt_eq_ld, Memref.IsWhole.read_unread]
  pointwise
  exact (hT p q).1

include hT in
/-- The mask of a class at a pixel. -/
theorem msk_apply (k : ℕ) (hk : k < 19) (p : Fin 64) (q : Fin 512) :
    msk (targets (F := Ideal) arg3 harg3 x1) k (ix2 p q) = if T p q = k then 1#1 else 0#1 := by
  show IntOp.cmpi .eq (targets (F := Ideal) arg3 harg3 x1 (ix2 p q)) (BitVec.ofNat 32 k) = _
  rw [targets_apply arg3 harg3 x1 T hT]
  have h := (hT p q).2
  have he : (BitVec.ofNat 32 (T p q) = BitVec.ofNat 32 k) ↔ T p q = k := by
    constructor
    · intro h'
      have := congrArg BitVec.toNat h'
      simp only [BitVec.toNat_ofNat] at this
      omega
    · intro h'
      rw [h']
  by_cases hh : T p q = k
  · rw [if_pos hh, hh]
    simp [IntOp.cmpi]
  · rw [if_neg hh]
    show BitVec.ofBool (BitVec.ofNat 32 (T p q) == BitVec.ofNat 32 k) = 0#1
    rw [beq_eq_false_iff_ne.2 (mt he.1 hh)]
    rfl

include hX hT in
/-- The word of a pixel holds its two counts. -/
theorem word_toNat (k : ℕ) (hk : k < 19) (p : Fin 64) (q : Fin 512) :
    (word (scores arg2 harg2 x0) (targets (F := Ideal) arg3 harg3 x1) (maxima arg2 harg2 arg6 x0) k hk (ix2 p q)).toNat
      = 65536 * (if T p q = k then 1 else 0) + (if T p q = k ∧ X k p q = topTo (fun i => X i p q) 18 then 1 else 0) := by
  show (Scalar.select (msk (targets (F := Ideal) arg3 harg3 x1) k (ix2 p q))
    (Scalar.select (Ideal.cmp .oeq (cls (scores arg2 harg2 x0) k hk (ix2 p q)) (maxima arg2 harg2 arg6 x0 (ix2 p q))) 65537#32 65536#32) 0#32).toNat = _
  rw [msk_apply arg3 harg3 x1 T hT k hk, cls_apply arg2 harg2 x0 X hX, maxima_apply arg2 harg2 x0 X hX]
  by_cases h : T p q = k
  · by_cases h' : X k p q = topTo (fun i => X i p q) 18
    · simp [h, h', Scalar.select, Ideal.cmp]
    · simp [h, h', Scalar.select, Ideal.cmp]
  · simp [h, Scalar.select]

include hX hT in
/-- The loss of a pixel. -/
theorem loss_apply (k : ℕ) (hk : k < 19) (p : Fin 64) (q : Fin 512) :
    loss (scores arg2 harg2 x0) (targets (F := Ideal) arg3 harg3 x1) (logs arg2 harg2 arg7 x0) k hk (ix2 p q)
      = ((if T p q = k then Real.log (expTo (fun i => X i p q) 18) - X k p q else 0 : ℝ) : EReal) := by
  show Scalar.select (msk (targets (F := Ideal) arg3 harg3 x1) k (ix2 p q))
    (logs arg2 harg2 arg7 x0 (ix2 p q) - cls (scores arg2 harg2 x0) k hk (ix2 p q)) (Ideal.ofBits .f32 0x00000000#32) = _
  rw [msk_apply arg3 harg3 x1 T hT k hk, cls_apply arg2 harg2 x0 X hX, logs_apply arg2 harg2 x0 X hX]
  by_cases h : T p q = k
  · simp [h, Scalar.select]
  · simp [h, Scalar.select]

include hX hT in
/-- The sum of the words of a class holds the two counts: the first above, the second below. -/
theorem words_toNat (k : ℕ) (hk : k < 19) (y : S1x1.Idx) :
    (words (scores arg2 harg2 x0) (targets (F := Ideal) arg3 harg3 x1) (maxima arg2 harg2 arg6 x0) k hk y).toNat
      = 65536 * cnt T k + hit X T k := by
  have hc := cnt_le T k
  have hh := hit_le X T k
  have hsum : (∑ p : Fin 64, ∑ q : Fin 512, (word (scores arg2 harg2 x0) (targets (F := Ideal) arg3 harg3 x1)
      (maxima arg2 harg2 arg6 x0) k hk (ix2 p q)).toNat) = 65536 * cnt T k + hit X T k := by
    rw [cnt, hit, Finset.mul_sum, ← Finset.sum_add_distrib]
    refine Finset.sum_congr rfl fun p _ => ?_
    rw [Finset.mul_sum, ← Finset.sum_add_distrib]
    exact Finset.sum_congr rfl fun q _ => word_toNat arg2 harg2 arg3 harg3 arg6 x0 x1 X hX T hT k hk p q
  unfold words
  rw [total_words _ (by rw [hsum]; omega), hsum]

include hX hT in
/-- The sum of the losses of a class. -/
theorem losses_apply (k : ℕ) (hk : k < 19) (y : S1x1.Idx) :
    losses (scores arg2 harg2 x0) (targets (F := Ideal) arg3 harg3 x1) (logs arg2 harg2 arg7 x0) k hk y = ((lossSum X T k : ℝ) : EReal) := by
  unfold losses
  rw [total_losses, lossSum, coe_sum]
  refine Finset.sum_congr rfl fun p _ => ?_
  rw [coe_sum]
  exact Finset.sum_congr rfl fun q _ => loss_apply arg2 harg2 arg3 harg3 arg7 x0 x1 X hX T hT k hk p q

include hX hT in
/-- A store adds its number to what it finds. -/
theorem stored_apply (j k : ℕ) (hk : k < 19) (ld : Vec Ideal S1x1 .f32) (y : S1x1.Idx) :
    stored (scores arg2 harg2 x0) (targets (F := Ideal) arg3 harg3 x1) (maxima arg2 harg2 arg6 x0) (logs arg2 harg2 arg7 x0) j k hk ld y
      = ld y + ((stat X T k j : ℝ) : EReal) := by
  have hw := words_toNat arg2 harg2 arg3 harg3 arg6 x0 x1 X hX T hT k hk y
  have hl := losses_apply arg2 harg2 arg3 harg3 arg7 x0 x1 X hX T hT k hk y
  have hc := cnt_le T k
  have hh := hit_le X T k
  generalize scores arg2 harg2 x0 = x at hw hl ⊢
  generalize targets (F := Ideal) arg3 harg3 x1 = t at hw hl ⊢
  generalize maxima arg2 harg2 arg6 x0 = mx at hw ⊢
  generalize logs arg2 harg2 arg7 x0 = u at hl ⊢
  match j with
  | 0 =>
    show shapeCast S1x1 (addf (F := Ideal) (φ := .f32) ld (sitofp (F := Ideal) .f32 (andi (shrsi (words x t mx k hk) (broadcast S1x1 16#32)) (broadcast S1x1 65535#32))))
      shapeCasts_S1x1_S1x1 y = ld y + ((cnt T k : ℝ) : EReal)
    rw [shapeCast_self]
    show ld y + (((IntOp.andi (IntOp.shrsi .vector (words x t mx k hk y) 16#32) 65535#32).toInt : ℝ) : EReal) = _
    have h : (65536 * cnt T k + hit X T k) / 65536 = cnt T k := by omega
    rw [hi_toInt, hw, h, Int.cast_natCast]
  | 1 =>
    show shapeCast S1x1 (addf (F := Ideal) (φ := .f32) ld (sitofp (F := Ideal) .f32 (andi (words x t mx k hk) (broadcast S1x1 65535#32))))
      shapeCasts_S1x1_S1x1 y = ld y + ((hit X T k : ℝ) : EReal)
    rw [shapeCast_self]
    show ld y + (((IntOp.andi (words x t mx k hk y) 65535#32).toInt : ℝ) : EReal) = _
    have h : (65536 * cnt T k + hit X T k) % 65536 = hit X T k := by omega
    rw [lo_toInt, hw, h, Int.cast_natCast]
  | j + 2 =>
    show shapeCast S1x1 (addf ld (losses x t u k hk)) shapeCasts_S1x1_S1x1 y = ld y + ((lossSum X T k : ℝ) : EReal)
    rw [shapeCast_self]
    show ld y + losses x t u k hk y = _
    rw [hl]

end

end Cert.KernelIdeal.Block
-- ==== Proof.Acc.lean ====
/- What the accumulator holds after one grid point, and what the last point stores into the result, over the real
   numbers: each point adds its block's three numbers per class, and the result is computed from the three columns. -/
module

public import proofs.«01_k».proof.Proof.Cells
public import proofs.«01_k».proof.Proof.Stats

@[expose] public section

noncomputable section

namespace Cert.KernelIdeal.Block

open Cert.KernelIdeal Cert.KernelIdeal.Gen Idealize.ShloMosaic Idealize.ShloMosaic.TcCoe Idealize.SL.Sem

variable (c : Dev nD) (i : grid0.Coords)
  (arg2 : Memref sig .tc .vmem S1x19x64x512 .f32) (harg2 : arg2.IsWhole)
  (arg3 : Memref sig .tc .vmem S1x64x512 .i32) (harg3 : arg3.IsWhole)
  (arg4 : Memref sig .tc .vmem S1x1 .f32) (harg4 : arg4.IsWhole)
  (arg5 : Memref sig .tc .vmem S19x128 .f32) (harg5 : arg5.IsWhole)
  (arg6 : Memref sig .tc .vmem S64x512 .f32) (harg6 : arg6.IsWhole)
  (arg7 : Memref sig .tc .vmem S64x512 .f32) (harg7 : arg7.IsWhole)
  (x0 : Vec Ideal S1x19x64x512 .f32) (x1 : Vec Ideal S1x64x512 .i32) (xs0 : Vec Ideal S19x128 .f32)
  (X : ℕ → ℕ → ℕ → ℝ) (hX : ∀ (k : Fin 19) (p : Fin 64) (q : Fin 512), x0 (ix4 0 k p q) = ((X k p q : ℝ) : EReal))
  (T : ℕ → ℕ → ℕ) (hT : ∀ (p : Fin 64) (q : Fin 512), x1 (ix3 0 p q) = BitVec.ofNat 32 (T p q) ∧ T p q < 19)

/-- What a store finds when it comes over what the point before left: that element. -/
theorem ldKept_apply (k : ℕ) (hk : k < 57) (L : List (View.Piece (Elt Ideal) S19x128 .f32)) (y : S1x1.Idx) :
    ldKept arg5 harg5 xs0 k hk L y = xs0 (place k hk) := by
  unfold ldKept
  rw [View.readAt_eq_ld, Memref.IsWhole.read_unread]
  exact congrArg xs0 (cell_emb k hk y)

/-- What a store finds when it comes over the stores before it in the same point: what they leave in its element. -/
theorem ldFresh_apply (k : ℕ) (hk : k < 57) (L : List (View.Piece (Elt Ideal) S19x128 .f32)) (y : S1x1.Idx) :
    ldFresh arg5 k hk L y = View.canon L (place k hk) := by
  unfold ldFresh
  rw [View.readCov_eq_canon']
  exact congrArg (View.canon L) (cell_emb k hk y)

/-- The first point's fill leaves zero everywhere. -/
theorem zeroFill_apply (a : Fin 19) (b : Fin 128) :
    View.canon (zeroFill (F := Ideal)) (ix2 a b) = (0 : EReal) := by
  have he : (Rect.unit (s := S19x128) ![0, 0] S19x128.size inb_S19x128_S19x128_0_0).emb (ix2 a b) = (ix2 a b : S19x128.Idx) := by
    funext d
    fin_cases d
    · exact Fin.ext (show 0 + 1 * a.val = a.val by omega)
    · exact Fin.ext (show 0 + 1 * b.val = b.val by omega)
  unfold zeroFill
  rw [← he]
  refine (View.canon_cons_emb _ _ _ _).trans ?_
  unfold k0_pay5
  rw [shapeCast_self]
  exact Ideal.ofBits_zero_f32

include hX hT in
/-- A point that keeps the accumulator adds the block's number to each element. -/
theorem kept_apply (k : ℕ) (hk : k < 57) :
    View.canon (accPieces (scores arg2 harg2 x0) (targets (F := Ideal) arg3 harg3 x1) (maxima arg2 harg2 arg6 x0) (logs arg2 harg2 arg7 x0)
        [] (ldKept arg5 harg5 xs0) 57 (Nat.le_refl 57)) (place k hk)
      = xs0 (place k hk) + ((stat X T (k / 3) (k % 3) : ℝ) : EReal) := by
  have h3 : k / 3 < 19 := by omega
  have h57 : k ≤ 57 := by omega
  rw [canon_place _ _ _ _ _ _ 57 (Nat.le_refl 57) k hk hk h3 h57,
    stored_apply arg2 harg2 arg3 harg3 arg6 arg7 x0 x1 X hX T hT, ldKept_apply]

include hX hT in
/-- The first point leaves the block's number in each element. -/
theorem fresh_apply (k : ℕ) (hk : k < 57) :
    View.canon (accPieces (scores arg2 harg2 x0) (targets (F := Ideal) arg3 harg3 x1) (maxima arg2 harg2 arg6 x0) (logs arg2 harg2 arg7 x0)
        zeroFill (ldFresh arg5) 57 (Nat.le_refl 57)) (place k hk)
      = ((stat X T (k / 3) (k % 3) : ℝ) : EReal) := by
  have h3 : k / 3 < 19 := by omega
  have h57 : k ≤ 57 := by omega
  rw [canon_place _ _ _ _ _ _ 57 (Nat.le_refl 57) k hk hk h3 h57,
    stored_apply arg2 harg2 arg3 harg3 arg6 arg7 x0 x1 X hX T hT, ldFresh_apply,
    canon_later _ _ _ _ _ _ k h57 k hk (Nat.le_refl k)]
  unfold place
  rw [zeroFill_apply, zero_add]

include hX hT in
/-- The accumulator after the first point. -/
theorem first_apply (hc0 : cond0_0 i) (hc1 : ¬cond0_1 i) (k : ℕ) (hk : k < 57) :
    sout0_A_0 c i arg2 harg2 arg3 harg3 arg4 harg4 arg5 harg5 arg6 harg6 arg7 harg7 hc0 hc1 x0 x1 (place k hk)
      = ((stat X T (k / 3) (k % 3) : ℝ) : EReal) := by
  unfold sout0_A_0
  rw [accA, View.read_writes_junk_eq_canon]
  exact fresh_apply arg2 harg2 arg3 harg3 arg5 arg6 arg7 x0 x1 X hX T hT k hk

include hX hT in
/-- The accumulator after a point between the first and the last. -/
theorem middle_apply (hc0 : ¬cond0_0 i) (hc1 : ¬cond0_1 i) (k : ℕ) (hk : k < 57) :
    sout0_B_0 c i arg2 harg2 arg3 harg3 arg4 harg4 arg5 harg5 arg6 harg6 arg7 harg7 hc0 hc1 x0 x1 xs0 (place k hk)
      = xs0 (place k hk) + ((stat X T (k / 3) (k % 3) : ℝ) : EReal) := by
  unfold sout0_B_0
  rw [accB, View.read_writes_apply_eq_canon _ _ _ _ (cover_place _ _ _ _ _ _ 57 (Nat.le_refl 57) k hk hk)]
  exact kept_apply arg2 harg2 arg3 harg3 arg5 harg5 arg6 arg7 x0 x1 xs0 X hX T hT k hk

include hX hT in
/-- One column of the accumulator, read back at the last point. -/
theorem column_apply (hc0 : ¬cond0_0 i) (hc1 : cond0_1 i) (j : ℕ) (hj : j < 3)
    (inb : ∀ a, (![0, j] : Fin 2 → ℕ) a + (![19, 1] : Fin 2 → ℕ) a ≤ S19x128.size a) (k : Fin 19) (b : Fin 1) (hk : 3 * k.val + j < 57) :
    arg5.view.readCov (kernelRun0_C c i arg2 harg2 arg3 harg3 arg4 harg4 arg5 harg5 arg6 harg6 arg7 harg7 hc0 hc1 x0 x1 xs0).2.1
        (Rect.unit (s := S19x128) ![0, j] ![19, 1] inb).toLoadRect (ix2 k b)
      = xs0 (place (3 * k.val + j) hk) + ((stat X T k j : ℝ) : EReal) := by
  have he : (Rect.unit (s := S19x128) ![0, j] ![19, 1] inb).toLoadRect.idx (ix2 k b) = place (3 * k.val + j) hk := by
    funext d
    fin_cases d
    · exact Fin.ext (show 0 + 1 * k.val = (3 * k.val + j) / 3 by omega)
    · exact Fin.ext (show j + 1 * b.val = (3 * k.val + j) % 3 by omega)
  have h1 : (3 * k.val + j) / 3 = k.val := by omega
  have h2 : (3 * k.val + j) % 3 = j := by omega
  rw [accC, View.readCov_eq_canon']
  dsimp only
  rw [he, kept_apply arg2 harg2 arg3 harg3 arg5 harg5 arg6 arg7 x0 x1 xs0 X hX T hT, h1, h2]

/-- One store of a one-element array, read back. -/
theorem one_store {κ : Kind} {sp : Space} (v : View sig κ sp S1x1 .f32) (w : Vec Ideal S1x1 .f32) :
    v.read (Elt Ideal) (v.writes (Elt Ideal) v.junk [⟨Rect.unit (s := S1x1) ![0, 0] ![1, 1] inb_S1x1_S1x1_0_0, w⟩]) = w := by
  rw [View.read_writes_junk_eq_canon]
  funext y
  have he : (Rect.unit (s := S1x1) ![0, 0] ![1, 1] inb_S1x1_S1x1_0_0).emb y = y := by
    funext d
    fin_cases d
    · exact Fin.ext (show 0 + 1 * (y 0).val = (y 0).val by omega)
    · exact Fin.ext (show 0 + 1 * (y 1).val = (y 1).val by omega)
  have h : ∀ z : S1x1.Idx, (Rect.unit (s := S1x1) ![0, 0] ![1, 1] inb_S1x1_S1x1_0_0).emb y = z →
      View.canon (Val := Elt Ideal) [⟨Rect.unit (s := S1x1) ![0, 0] ![1, 1] inb_S1x1_S1x1_0_0, w⟩] z = w y := by
    intro z hz
    subst hz
    exact View.canon_cons_emb _ _ _ _
  exact h y he

/-- The last point's result is the closing computation on the three columns. -/
theorem last_eq (hc0 : ¬cond0_0 i) (hc1 : cond0_1 i) :
    out0_C_2 c i arg2 harg2 arg3 harg3 arg4 harg4 arg5 harg5 arg6 harg6 arg7 harg7 hc0 hc1 x0 x1 xs0
      = k0_pay4
            (arg5.view.readCov (kernelRun0_C c i arg2 harg2 arg3 harg3 arg4 harg4 arg5 harg5 arg6 harg6 arg7 harg7 hc0 hc1 x0 x1 xs0).2.1
              (Rect.unit (s := S19x128) ![0, 0] ![19, 1] inb_S19x128_S19x1_0_0).toLoadRect)
            (arg5.view.readCov (kernelRun0_C c i arg2 harg2 arg3 harg3 arg4 harg4 arg5 harg5 arg6 harg6 arg7 harg7 hc0 hc1 x0 x1 xs0).2.1
              (Rect.unit (s := S19x128) ![0, 1] ![19, 1] inb_S19x128_S19x1_0_1).toLoadRect)
            (arg5.view.readCov (kernelRun0_C c i arg2 harg2 arg3 harg3 arg4 harg4 arg5 harg5 arg6 harg6 arg7 harg7 hc0 hc1 x0 x1 xs0).2.1
              (Rect.unit (s := S19x128) ![0, 2] ![19, 1] inb_S19x128_S19x1_0_2).toLoadRect) := by
  unfold out0_C_2
  exact (congrArg (fun L => VO0_2.read (Elt Ideal) (VO0_2.writes (Elt Ideal) VO0_2.junk L))
    (outC c i arg2 harg2 arg3 harg3 arg4 harg4 arg5 harg5 arg6 harg6 arg7 harg7 x0 x1 xs0 hc0 hc1)).trans (one_store _ _)

end Cert.KernelIdeal.Block
-- ==== Proof.Fold.lean ====
/- The accumulator over all the points of the grid: after point `n` it holds, per class, the sums over the blocks
   `0` to `n`; and the array the run leaves is the closing computation on the sums over all 64 blocks. -/
module

public import proofs.«01_k».proof.Proof.Acc
public import proofs.«01_k».proof.Proof.Gen.KernelIdeal.Value

@[expose] public section

noncomputable section

namespace Cert.KernelIdeal.Fold

open Cert.KernelIdeal Cert.KernelIdeal.Gen Cert.KernelIdeal.Block Idealize.ShloMosaic Idealize.ShloMosaic.TcCoe Idealize.SL.Sem

/-- Where the window of the scores is at each point: batch `t / 8`, every class, strip `t % 8`, every column. -/
theorem index0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)

/-- Where the window of the targets is at each point. -/
theorem index1 : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)

variable (m : (ℓ : Loc nD τ sig) → Buf (Elt Ideal) ℓ) (c : Dev nD)

/-- The block of scores of a point is its part of the first argument. -/
theorem scores_block (t : Fin cfg0.N) (k : Fin 19) (p : Fin 64) (q : Fin 512) (hb : t.val / 8 < 8) (hr : 64 * (t.val % 8) + p.val < 512) :
    (iblk m c 0 t : Vec Ideal S1x19x64x512 .f32) (ix4 0 k p q)
      = m ((c : Thread nD τ).loc main_arg0) (ix4 ⟨t.val / 8, hb⟩ k ⟨64 * (t.val % 8) + p.val, hr⟩ q) := by
  obtain ⟨h0, h1, h2, h3⟩ := index0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 8; omega
  | ⟨1, _⟩ => show win0_0.index t 1 * 19 + 1 * k.val = k.val; omega
  | ⟨2, _⟩ => show win0_0.index t 2 * 64 + 1 * p.val = 64 * (t.val % 8) + p.val; omega
  | ⟨3, _⟩ => show win0_0.index t 3 * 512 + 1 * q.val = q.val; omega

/-- The block of targets of a point is its part of the second argument. -/
theorem targets_block (t : Fin cfg0.N) (p : Fin 64) (q : Fin 512) (hb : t.val / 8 < 8) (hr : 64 * (t.val % 8) + p.val < 512) :
    (iblk m c 1 t : Vec Ideal S1x64x512 .i32) (ix3 0 p q)
      = m ((c : Thread nD τ).loc main_arg1) (ix3 ⟨t.val / 8, hb⟩ ⟨64 * (t.val % 8) + p.val, hr⟩ q) := by
  obtain ⟨h0, h1, h2⟩ := index1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 8; omega
  | ⟨1, _⟩ => show win0_1.index t 1 * 64 + 1 * p.val = 64 * (t.val % 8) + p.val; omega
  | ⟨2, _⟩ => show win0_1.index t 2 * 512 + 1 * q.val = q.val; omega

/-- The part of the scores (over batch, class, row, column) that block `t` holds. -/
def partX (x : ℕ → ℕ → ℕ → ℕ → ℝ) (t : ℕ) : ℕ → ℕ → ℕ → ℝ := fun k p q => x (t / 8) k (64 * (t % 8) + p) q

/-- The part of the targets (over batch, row, column) that block `t` holds. -/
def partT (g : ℕ → ℕ → ℕ → ℕ) (t : ℕ) : ℕ → ℕ → ℕ := fun p q => g (t / 8) (64 * (t % 8) + p) q

/-- The sum of a block's number over the blocks `0` to `n`. -/
def upTo (x : ℕ → ℕ → ℕ → ℕ → ℝ) (g : ℕ → ℕ → ℕ → ℕ) (k j n : ℕ) : ℝ :=
  ∑ t ∈ Finset.range (n + 1), stat (partX x t) (partT g t) k j

variable (x : ℕ → ℕ → ℕ → ℕ → ℝ) (g : ℕ → ℕ → ℕ → ℕ)
  (hx : ∀ (b : Fin 8) (k : Fin 19) (r : Fin 512) (q : Fin 512), m ((c : Thread nD τ).loc main_arg0) (ix4 b k r q) = ((x b k r q : ℝ) : EReal))
  (hg : ∀ (b : Fin 8) (r : Fin 512) (q : Fin 512), m ((c : Thread nD τ).loc main_arg1) (ix3 b r q) = BitVec.ofNat 32 (g b r q) ∧ g b r q < 19)

include hx in
/-- The scores of a block. -/
theorem hX (t : Fin cfg0.N) (k : Fin 19) (p : Fin 64) (q : Fin 512) :
    (iblk m c 0 t : Vec Ideal S1x19x64x512 .f32) (ix4 0 k p q) = ((partX x t.val k p q : ℝ) : EReal) := by
  have hN : t.val < 64 := lt_of_lt_of_eq t.isLt (show cfg0.N = 64 from N_0)
  have hb : t.val / 8 < 8 := by omega
  have hr : 64 * (t.val % 8) + p.val < 512 := by omega
  exact (scores_block m c t k p q hb hr).trans (hx ⟨_, hb⟩ k ⟨_, hr⟩ q)

include hg in
/-- The targets of a block. -/
theorem hT (t : Fin cfg0.N) (p : Fin 64) (q : Fin 512) :
    (iblk m c 1 t : Vec Ideal S1x64x512 .i32) (ix3 0 p q) = BitVec.ofNat 32 (partT g t.val p q) ∧ partT g t.val p q < 19 := by
  have hN : t.val < 64 := lt_of_lt_of_eq t.isLt (show cfg0.N = 64 from N_0)
  have hb : t.val / 8 < 8 := by omega
  have hr : 64 * (t.val % 8) + p.val < 512 := by omega
  have h := hg ⟨_, hb⟩ ⟨_, hr⟩ q
  exact ⟨(targets_block m c t p q hb hr).trans h.1, h.2⟩

include hx hg in
/-- The accumulator after point `n`, which is not the last. -/
theorem acc_apply (k : ℕ) (hk : k < 57) : ∀ (n : ℕ) (hn : n < cfg0.N), n < 63 →
    (outsAt0 m c n hn).2 (place k hk) = ((upTo x g (k / 3) (k % 3) n : ℝ) : EReal)
  | 0, hn, _ => by
    have h0 : (⟨0, hn⟩ : Fin cfg0.N).val % 64 = 0 := Nat.zero_mod _
    have h1 : ¬(⟨0, hn⟩ : Fin cfg0.N).val % 64 = 63 := by
      show ¬0 % 64 = 63
      omega
    have e := congrArg Prod.snd (outsAt0_A m c ⟨0, hn⟩ h0 h1)
    refine (congrFun e (place k hk)).trans ?_
    refine (first_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      scM0_0 (Memref.isWhole_whole _) scM0_1 (Memref.isWhole_whole _) scM0_2 (Memref.isWhole_whole _) (iblk m c 0 ⟨0, hn⟩) (iblk m c 1 ⟨0, hn⟩) (partX x 0) (hX m c x hx ⟨0, hn⟩) (partT g 0) (hT m c g hg ⟨0, hn⟩)
      ((hcond0_0 ⟨0, hn⟩).mpr h0) (fun h => h1 ((hcond0_1 ⟨0, hn⟩).mp h)) k hk).trans ?_
    rw [upTo, Finset.sum_range_one]
  | n + 1, hn, h63 => by
    have h0 : ¬(⟨n + 1, hn⟩ : Fin cfg0.N).val % 64 = 0 := by
      show ¬(n + 1) % 64 = 0
      omega
    have h1 : ¬(⟨n + 1, hn⟩ : Fin cfg0.N).val % 64 = 63 := by
      show ¬(n + 1) % 64 = 63
      omega
    have e := congrArg Prod.snd (outsAt0_B m c ⟨n + 1, hn⟩ h0 h1)
    refine (congrFun e (place k hk)).trans ?_
    refine (middle_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      scM0_0 (Memref.isWhole_whole _) scM0_1 (Memref.isWhole_whole _) scM0_2 (Memref.isWhole_whole _) (iblk m c 0 ⟨n + 1, hn⟩) (iblk m c 1 ⟨n + 1, hn⟩) (outsAt0 m c n (Nat.lt_of_succ_lt hn)).2 (partX x (n + 1)) (hX m c x hx ⟨n + 1, hn⟩) (partT g (n + 1))
      (hT m c g hg ⟨n + 1, hn⟩) (fun h => h0 ((hcond0_0 ⟨n + 1, hn⟩).mp h)) (fun h => h1 ((hcond0_1 ⟨n + 1, hn⟩).mp h)) k hk).trans ?_
    rw [upTo, Finset.sum_range_succ, EReal.coe_add]
    exact congrArg (· + _) (acc_apply k hk n (Nat.lt_of_succ_lt hn) (Nat.lt_of_succ_lt h63))

include hx hg in
/-- The array the run leaves: the closing computation on three columns of sums over all the blocks. -/
theorem result_eq : ∃ gt ok cs : Vec Ideal S19x1 .f32, Value.G2 m c = k0_pay4 gt ok cs
    ∧ (∀ (k : Fin 19) (b : Fin 1), gt (ix2 k b) = ((upTo x g k 0 63 : ℝ) : EReal))
    ∧ (∀ (k : Fin 19) (b : Fin 1), ok (ix2 k b) = ((upTo x g k 1 63 : ℝ) : EReal))
    ∧ (∀ (k : Fin 19) (b : Fin 1), cs (ix2 k b) = ((upTo x g k 2 63 : ℝ) : EReal)) := by
  have hn : 63 < cfg0.N := lt_of_lt_of_eq (by decide) N_0.symm
  have hn' : 62 < cfg0.N := lt_of_lt_of_eq (by decide) N_0.symm
  have h0 : ¬(⟨63, hn⟩ : Fin cfg0.N).val % 64 = 0 := by
    show ¬63 % 64 = 0
    omega
  have h1 : (⟨63, hn⟩ : Fin cfg0.N).val % 64 = 63 := rfl
  have e := congrArg Prod.fst (outsAt0_C m c ⟨63, hn⟩ h0 h1)
  have eG : Value.G2 m c = (outsAt0 m c 63 hn).1 :=
    (Value.G2_last m c).trans (congrArg Prod.fst (Value.outsAt0_sweep m c 63 hn)).symm
  have hcol : ∀ (j : ℕ) (hj : j < 3) (k : Fin 19) (hk : 3 * k.val + j < 57),
      (outsAt0 m c 62 hn').2 (place (3 * k.val + j) hk) + ((stat (partX x 63) (partT g 63) k j : ℝ) : EReal)
        = ((upTo x g k j 63 : ℝ) : EReal) := by
    intro j hj k hk
    have a1 : (3 * k.val + j) / 3 = k.val := by omega
    have a2 : (3 * k.val + j) % 3 = j := by omega
    rw [acc_apply m c x g hx hg _ hk 62 hn' (by decide), a1, a2, upTo, upTo, Finset.sum_range_succ _ 63, EReal.coe_add]
  have e2 := last_eq c (grid0.coords ⟨63, hn⟩) (ms0_0 ⟨63, hn⟩) (hs0_0 ⟨63, hn⟩) (ms0_1 ⟨63, hn⟩) (hs0_1 ⟨63, hn⟩) (ms0_2 ⟨63, hn⟩)
    (hs0_2 ⟨63, hn⟩) scM0_0 (Memref.isWhole_whole _) scM0_1 (Memref.isWhole_whole _) scM0_2 (Memref.isWhole_whole _)
    (iblk m c 0 ⟨63, hn⟩) (iblk m c 1 ⟨63, hn⟩) (outsAt0 m c 62 hn').2
    (fun h => h0 ((hcond0_0 ⟨63, hn⟩).mp h)) ((hcond0_1 ⟨63, hn⟩).mpr h1)
  have e3 : Value.G2 m c = _ := (eG.trans e).trans e2
  refine ⟨_, _, _, e3, ?_, ?_, ?_⟩
  · intro k b
    have hk : 3 * k.val + 0 < 57 := by omega
    exact (column_apply c (grid0.coords ⟨63, hn⟩) (ms0_0 ⟨63, hn⟩) (hs0_0 ⟨63, hn⟩) (ms0_1 ⟨63, hn⟩) (hs0_1 ⟨63, hn⟩) (ms0_2 ⟨63, hn⟩) (hs0_2 ⟨63, hn⟩)
      scM0_0 (Memref.isWhole_whole _) scM0_1 (Memref.isWhole_whole _) scM0_2 (Memref.isWhole_whole _) (iblk m c 0 ⟨63, hn⟩) (iblk m c 1 ⟨63, hn⟩) (outsAt0 m c 62 hn').2 (partX x 63) (hX m c x hx ⟨63, hn⟩) (partT g 63) (hT m c g hg ⟨63, hn⟩) (fun h => h0 ((hcond0_0 ⟨63, hn⟩).mp h)) ((hcond0_1 ⟨63, hn⟩).mpr h1) 0
      (by decide) _ k b hk).trans (hcol 0 (by decide) k hk)
  · intro k b
    have hk : 3 * k.val + 1 < 57 := by omega
    exact (column_apply c (grid0.coords ⟨63, hn⟩) (ms0_0 ⟨63, hn⟩) (hs0_0 ⟨63, hn⟩) (ms0_1 ⟨63, hn⟩) (hs0_1 ⟨63, hn⟩) (ms0_2 ⟨63, hn⟩) (hs0_2 ⟨63, hn⟩)
      scM0_0 (Memref.isWhole_whole _) scM0_1 (Memref.isWhole_whole _) scM0_2 (Memref.isWhole_whole _) (iblk m c 0 ⟨63, hn⟩) (iblk m c 1 ⟨63, hn⟩) (outsAt0 m c 62 hn').2 (partX x 63) (hX m c x hx ⟨63, hn⟩) (partT g 63) (hT m c g hg ⟨63, hn⟩) (fun h => h0 ((hcond0_0 ⟨63, hn⟩).mp h)) ((hcond0_1 ⟨63, hn⟩).mpr h1) 1
      (by decide) _ k b hk).trans (hcol 1 (by decide) k hk)
  · intro k b
    have hk : 3 * k.val + 2 < 57 := by omega
    exact (column_apply c (grid0.coords ⟨63, hn⟩) (ms0_0 ⟨63, hn⟩) (hs0_0 ⟨63, hn⟩) (ms0_1 ⟨63, hn⟩) (hs0_1 ⟨63, hn⟩) (ms0_2 ⟨63, hn⟩) (hs0_2 ⟨63, hn⟩)
      scM0_0 (Memref.isWhole_whole _) scM0_1 (Memref.isWhole_whole _) scM0_2 (Memref.isWhole_whole _) (iblk m c 0 ⟨63, hn⟩) (iblk m c 1 ⟨63, hn⟩) (outsAt0 m c 62 hn').2 (partX x 63) (hX m c x hx ⟨63, hn⟩) (partT g 63) (hT m c g hg ⟨63, hn⟩) (fun h => h0 ((hcond0_0 ⟨63, hn⟩).mp h)) ((hcond0_1 ⟨63, hn⟩).mpr h1) 2
      (by decide) _ k b hk).trans (hcol 2 (by decide) k hk)

end Cert.KernelIdeal.Fold
-- ==== Proof.Regroup.lean ====
/- The pixels counted in three orders, and the numbers of a class over all of them. -/
module

public import proofs.«01_k».proof.Proof.Fold

@[expose] public section

noncomputable section

namespace Cert.Sums

open Cert.KernelIdeal.Block Cert.KernelIdeal.Fold

section

variable {M : Type*} [AddCommMonoid M]

/-- A sum over `a * b` numbers, by quotient and remainder. -/
theorem sum_mul (f : ℕ → M) (b : ℕ) : ∀ a : ℕ, ∑ n ∈ Finset.range (a * b), f n = ∑ i ∈ Finset.range a, ∑ j ∈ Finset.range b, f (b * i + j)
  | 0 => by simp
  | a + 1 => by
    rw [Nat.succ_mul, Finset.sum_range_add, sum_mul f b a, Finset.sum_range_succ, Nat.mul_comm a b]

/-- The sum of a number of each pixel, over batch, row and column. -/
def pixelSum (f : ℕ → ℕ → ℕ → M) : M := ∑ b ∈ Finset.range 8, ∑ r ∈ Finset.range 512, ∑ q ∈ Finset.range 512, f b r q

/-- The same over the 64 blocks of 64 rows. -/
theorem sum_blocks (f : ℕ → ℕ → ℕ → M) :
    ∑ t ∈ Finset.range 64, ∑ p : Fin 64, ∑ q : Fin 512, f (t / 8) (64 * (t % 8) + p) q = pixelSum f := by
  have h8 : ∑ t ∈ Finset.range (8 * 8), ∑ p : Fin 64, ∑ q : Fin 512, f (t / 8) (64 * (t % 8) + p) q
      = ∑ b ∈ Finset.range 8, ∑ j ∈ Finset.range 8, ∑ p : Fin 64, ∑ q : Fin 512, f ((8 * b + j) / 8) (64 * ((8 * b + j) % 8) + p) q :=
    sum_mul _ 8 8
  refine h8.trans (Finset.sum_congr rfl fun b _ => ?_)
  have h512 : ∑ r ∈ Finset.range (8 * 64), ∑ q ∈ Finset.range 512, f b r q
      = ∑ j ∈ Finset.range 8, ∑ p ∈ Finset.range 64, ∑ q ∈ Finset.range 512, f b (64 * j + p) q := sum_mul _ 64 8
  refine Eq.trans (Finset.sum_congr rfl fun j hj => ?_) h512.symm
  have hj' := Finset.mem_range.1 hj
  have e1 : (8 * b + j) / 8 = b := by omega
  have e2 : (8 * b + j) % 8 = j := by omega
  rw [e1, e2, ← Fin.sum_univ_eq_sum_range (fun p => ∑ q ∈ Finset.range 512, f b (64 * j + p) q) 64]
  refine Finset.sum_congr rfl fun p _ => ?_
  exact Fin.sum_univ_eq_sum_range (fun q => f b (64 * j + p) q) 512

/-- The same over one row of all the pixels. -/
theorem sum_row (f : ℕ → ℕ → ℕ → M) :
    ∑ n : Fin 2097152, f (n / 262144) (n / 512 % 512) (n % 512) = pixelSum f := by
  rw [Fin.sum_univ_eq_sum_range (fun n => f (n / 262144) (n / 512 % 512) (n % 512)) 2097152]
  have h8 : ∑ n ∈ Finset.range (8 * 262144), f (n / 262144) (n / 512 % 512) (n % 512)
      = ∑ b ∈ Finset.range 8, ∑ j ∈ Finset.range 262144, f ((262144 * b + j) / 262144) ((262144 * b + j) / 512 % 512) ((262144 * b + j) % 512) :=
    sum_mul _ 262144 8
  refine h8.trans (Finset.sum_congr rfl fun b _ => ?_)
  have h512 : ∑ j ∈ Finset.range (512 * 512), f b (j / 512) (j % 512)
      = ∑ r ∈ Finset.range 512, ∑ q ∈ Finset.range 512, f b ((512 * r + q) / 512) ((512 * r + q) % 512) := sum_mul _ 512 512
  refine Eq.trans (Finset.sum_congr rfl fun j hj => ?_) (h512.trans ?_)
  · have hj' := Finset.mem_range.1 hj
    have e1 : (262144 * b + j) / 262144 = b := by omega
    have e2 : (262144 * b + j) / 512 % 512 = j / 512 := by omega
    have e3 : (262144 * b + j) % 512 = j % 512 := by omega
    rw [e1, e2, e3]
  · refine Finset.sum_congr rfl fun r _ => Finset.sum_congr rfl fun q hq => ?_
    have hq' := Finset.mem_range.1 hq
    have e1 : (512 * r + q) / 512 = r := by omega
    have e2 : (512 * r + q) % 512 = q := by omega
    rw [e1, e2]

/-- The same over the three axes of the array. -/
theorem sum_axes (f : ℕ → ℕ → ℕ → M) : ∑ b : Fin 8, ∑ r : Fin 512, ∑ q : Fin 512, f b r q = pixelSum f := by
  unfold pixelSum
  rw [← Fin.sum_univ_eq_sum_range (fun b => ∑ r ∈ Finset.range 512, ∑ q ∈ Finset.range 512, f b r q) 8]
  refine Finset.sum_congr rfl fun b _ => ?_
  rw [← Fin.sum_univ_eq_sum_range (fun r => ∑ q ∈ Finset.range 512, f b r q) 512]
  refine Finset.sum_congr rfl fun r _ => ?_
  exact Fin.sum_univ_eq_sum_range (fun q => f b r q) 512

end

section

variable (x : ℕ → ℕ → ℕ → ℕ → ℝ) (g : ℕ → ℕ → ℕ → ℕ)

/-- The top score of a pixel. -/
def best (b r q : ℕ) : ℝ := topTo (fun i => x b i r q) 18

/-- The cross entropy of a pixel against class `c`. -/
def nll (c b r q : ℕ) : ℝ := Real.log (expTo (fun i => x b i r q) 18) - x b c r q

/-- The pixels of a class. -/
def members (c : ℕ) : ℝ := pixelSum fun b r q => if g b r q = c then (1 : ℝ) else 0

/-- The pixels of a class that do not have it as their top score. -/
def missed (c : ℕ) : ℝ := pixelSum fun b r q => if g b r q = c then (if x b c r q = best x b r q then (0 : ℝ) else 1) else 0

/-- The loss of a class. -/
def lossOf (c : ℕ) : ℝ := pixelSum fun b r q => if g b r q = c then nll x c b r q else 0

/-- A count, or one where it is zero. -/
def orOne (v : ℝ) : ℝ := if 0 < v then v else 1

/-- The weight of a class. -/
def classWeight (c : ℕ) : ℝ := orOne (missed x g c) / orOne (members g c)

/-- The mean weighted loss, summed class by class. -/
def meanLoss : ℝ := (∑ c : Fin 19, classWeight x g c * lossOf x g c) / 2097152

/-- `orOne` is positive. -/
theorem orOne_pos (v : ℝ) : 0 < orOne v := by
  unfold orOne
  split
  · assumption
  · norm_num

/-- The pixels of a class, as the blocks count them. -/
theorem upTo_members (c : ℕ) : upTo x g c 0 63 = members g c := by
  have h : ∀ t, stat (partX x t) (partT g t) c 0 = ∑ p : Fin 64, ∑ q : Fin 512, if g (t / 8) (64 * (t % 8) + p) q = c then (1 : ℝ) else 0 := by
    intro t
    show ((cnt (partT g t) c : ℕ) : ℝ) = _
    unfold cnt partT
    push_cast
    rfl
  unfold upTo members
  rw [Finset.sum_congr rfl fun t _ => h t]
  exact sum_blocks fun b r q => if g b r q = c then (1 : ℝ) else 0

/-- The pixels of a class less those that have it as their top score, as the blocks count them. -/
theorem upTo_missed (c : ℕ) : upTo x g c 0 63 - upTo x g c 1 63 = missed x g c := by
  have h : ∀ t, stat (partX x t) (partT g t) c 0 - stat (partX x t) (partT g t) c 1
      = ∑ p : Fin 64, ∑ q : Fin 512, if g (t / 8) (64 * (t % 8) + p) q = c then
          (if x (t / 8) c (64 * (t % 8) + p) q = best x (t / 8) (64 * (t % 8) + p) q then (0 : ℝ) else 1) else 0 := by
    intro t
    show ((cnt (partT g t) c : ℕ) : ℝ) - ((hit (partX x t) (partT g t) c : ℕ) : ℝ) = _
    unfold cnt hit
    push_cast
    rw [← Finset.sum_sub_distrib]
    refine Finset.sum_congr rfl fun p _ => ?_
    rw [← Finset.sum_sub_distrib]
    refine Finset.sum_congr rfl fun q _ => ?_
    show ((if g (t / 8) (64 * (t % 8) + p) q = c then (1 : ℝ) else 0)
      - if g (t / 8) (64 * (t % 8) + p) q = c ∧ x (t / 8) c (64 * (t % 8) + p) q = best x (t / 8) (64 * (t % 8) + p) q then (1 : ℝ) else 0) = _
    by_cases h1 : g (t / 8) (64 * (t % 8) + p) q = c
    · by_cases h2 : x (t / 8) c (64 * (t % 8) + p) q = best x (t / 8) (64 * (t % 8) + p) q
      · rw [if_pos h1, if_pos ⟨h1, h2⟩, if_pos h1, if_pos h2, sub_self]
      · rw [if_pos h1, if_neg fun h => h2 h.2, if_pos h1, if_neg h2, sub_zero]
    · rw [if_neg h1, if_neg fun h => h1 h.1, if_neg h1, sub_zero]
  unfold upTo missed
  rw [← Finset.sum_sub_distrib, Finset.sum_congr rfl fun t _ => h t]
  exact sum_blocks fun b r q => if g b r q = c then (if x b c r q = best x b r q then (0 : ℝ) else 1) else 0

/-- The loss of a class, as the blocks add it. -/
theorem upTo_loss (c : ℕ) : upTo x g c 2 63 = lossOf x g c :=
  sum_blocks fun b r q => if g b r q = c then nll x c b r q else 0

/-- The mean weighted loss, summed pixel by pixel. -/
theorem meanLoss_eq (hg : ∀ b r q, b < 8 → r < 512 → q < 512 → g b r q < 19) :
    meanLoss x g = pixelSum (fun b r q => classWeight x g (g b r q) * nll x (g b r q) b r q) / 2097152 := by
  unfold meanLoss
  refine congrArg (· / 2097152) ?_
  have h : ∀ c : Fin 19, classWeight x g c * lossOf x g c
      = pixelSum fun b r q => if g b r q = c.val then classWeight x g c * nll x c b r q else 0 := by
    intro c
    unfold lossOf pixelSum
    rw [Finset.mul_sum]
    refine Finset.sum_congr rfl fun b _ => ?_
    rw [Finset.mul_sum]
    refine Finset.sum_congr rfl fun r _ => ?_
    rw [Finset.mul_sum]
    refine Finset.sum_congr rfl fun q _ => ?_
    rw [mul_ite, mul_zero]
  rw [Finset.sum_congr rfl fun c _ => h c]
  unfold pixelSum
  rw [Finset.sum_comm]
  refine Finset.sum_congr rfl fun b hb => ?_
  rw [Finset.sum_comm]
  refine Finset.sum_congr rfl fun r hr => ?_
  rw [Finset.sum_comm]
  refine Finset.sum_congr rfl fun q hq => ?_
  have hlt := hg b r q (Finset.mem_range.1 hb) (Finset.mem_range.1 hr) (Finset.mem_range.1 hq)
  rw [Finset.sum_eq_single (⟨g b r q, hlt⟩ : Fin 19)]
  · exact if_pos rfl
  · intro c _ hc
    exact if_neg fun h => hc (Fin.ext h.symm)
  · intro h
    exact absurd (Finset.mem_univ _) h

end

end Cert.Sums
-- ==== Proof.Close.lean ====
/- The kernel's result from its three columns, over real columns. -/
module

public import proofs.«01_k».proof.Proof.Regroup

@[expose] public section

noncomputable section

namespace Cert.KernelIdeal.Block

open Cert.KernelIdeal Cert.KernelIdeal.Gen Idealize.ShloMosaic Idealize.ShloMosaic.TcCoe Idealize.SL.Sem
open Cert.Sums

/-- The sum of a column of nineteen, spread over one cell. -/
theorem total_classes (src : FVec Ideal S19x1 .f32) (y : S1x1.Idx) :
    broadcast S1x1 (extractAt ![0, 0, 0] (shapeCast S1x1x1 (multiReduction .add [1, 2] S1
      (shapeCast S1x19x1 src shapeCasts_S19x1_S1x19x1) 0x00000000#32 reduces_S1x19x1_S1 (.inl rfl) rfl)
      shapeCasts_S1_S1x1x1) inpos_S1x1x1_p0_0_0) y = ∑ k : Fin 19, src (ix2 k 0) := by
  obtain ⟨j, hj⟩ := spread (multiReduction (F := Ideal) (φ := .f32) .add [1, 2] S1 (shapeCast S1x19x1 src shapeCasts_S19x1_S1x19x1) 0x00000000#32 reduces_S1x19x1_S1 (.inl rfl) rfl) y
  refine hj.trans ((Ideal.multiReduction_add_total _ _ _ one_S1 _ _ j).trans ?_)
  rw [sum_idx3, Fin.sum_univ_one]
  refine Finset.sum_congr rfl fun k _ => ?_
  rw [Fin.sum_univ_one]
  pointwise

/-- The products of the weights and the losses, class by class. -/
def products (gt ok cs : Vec Ideal S19x1 .f32) : FVec Ideal S19x1 .f32 :=
  mulf (divf (select (cmpf .ogt (subf gt ok) (broadcast S19x1 (Scalar.ofBits (F := Ideal) .f32 0x00000000#32))) (subf gt ok) (broadcast S19x1 (Scalar.ofBits (F := Ideal) .f32 0x3F800000#32)))
    (select (cmpf .ogt gt (broadcast S19x1 (Scalar.ofBits (F := Ideal) .f32 0x00000000#32))) gt (broadcast S19x1 (Scalar.ofBits (F := Ideal) .f32 0x3F800000#32)))) cs

/-- The result, spelt out. -/
theorem pay4_eq (gt ok cs : Vec Ideal S19x1 .f32) : k0_pay4 gt ok cs = mulf (F := Ideal)
    (broadcast S1x1 (extractAt ![0, 0, 0] (shapeCast S1x1x1 (multiReduction .add [1, 2] S1
      (shapeCast S1x19x1 (products gt ok cs) shapeCasts_S19x1_S1x19x1) 0x00000000#32 reduces_S1x19x1_S1 (.inl rfl) rfl)
      shapeCasts_S1_S1x1x1) inpos_S1x1x1_p0_0_0))
    (broadcast S1x1 (Scalar.ofBits (F := Ideal) .f32 0x35000000#32)) := rfl

/-- A quotient of real numbers. -/
theorem div_reals (a b : ℝ) (hb : b ≠ 0) : Ideal.div (a : EReal) (b : EReal) = ((a / b : ℝ) : EReal) := by
  rw [Ideal.div_coe hb, ← EReal.coe_mul, mul_one_div]

/-- A count, or one, of a real count. -/
theorem select_real (v : ℝ) : (if (0 : EReal) < (v : EReal) then (v : EReal) else 1) = ((orOne v : ℝ) : EReal) := by
  unfold orOne
  by_cases hv : 0 < v
  · rw [if_pos (EReal.coe_pos.2 hv), if_pos hv]
  · rw [if_neg fun h' => hv (EReal.coe_pos.1 h'), if_neg hv]
    rfl

/-- One of those products. -/
theorem products_apply (gt ok cs : Vec Ideal S19x1 .f32) (k : Fin 19) (a d l : ℝ) (ha : gt (ix2 k 0) = ((a : ℝ) : EReal)) (hd : ok (ix2 k 0) = ((d : ℝ) : EReal))
    (hl : cs (ix2 k 0) = ((l : ℝ) : EReal)) : products gt ok cs (ix2 k 0) = ((orOne (a - d) / orOne a * l : ℝ) : EReal) := by
  pointwise [products]
  rw [ha, hd, hl, ← EReal.coe_sub, select_real, select_real, div_reals _ _ (orOne_pos a).ne', ← EReal.coe_mul]

/-- The result of real columns. -/
theorem pay4_apply (gt ok cs : Vec Ideal S19x1 .f32) (a d l : ℕ → ℝ) (ha : ∀ k : Fin 19, gt (ix2 k 0) = ((a k : ℝ) : EReal)) (hd : ∀ k : Fin 19, ok (ix2 k 0) = ((d k : ℝ) : EReal))
    (hl : ∀ k : Fin 19, cs (ix2 k 0) = ((l k : ℝ) : EReal)) (y : S1x1.Idx) :
    k0_pay4 gt ok cs y = (((∑ k : Fin 19, orOne (a k - d k) / orOne (a k) * l k) / 2097152 : ℝ) : EReal) := by
  have hc : Ideal.ofBits FTy.f32 0x35000000#32 = ((1 / 2097152 : ℝ) : EReal) := by
    simp [Ideal.ofBits, Ideal.ieee, -EReal.coe_mul]
    norm_num
  have hm : ∀ U V : FVec Ideal S1x1 .f32, mulf U V y = (U y * V y : EReal) := fun _ _ => rfl
  have hs : ∑ k : Fin 19, products gt ok cs (ix2 k 0) = ((∑ k : Fin 19, orOne (a k - d k) / orOne (a k) * l k : ℝ) : EReal) := by
    rw [coe_sum]
    exact Finset.sum_congr rfl fun k _ => products_apply gt ok cs k _ _ _ (ha k) (hd k) (hl k)
  have hb : (broadcast S1x1 (Scalar.ofBits (F := Ideal) .f32 0x35000000#32) : FVec Ideal S1x1 .f32) y = ((1 / 2097152 : ℝ) : EReal) := hc
  rw [pay4_eq, hm, total_classes, hs, hb, ← EReal.coe_mul, mul_one_div]

/-- The result, from the columns the blocks leave. -/
theorem pay4_mean (gt ok cs : Vec Ideal S19x1 .f32) (x : ℕ → ℕ → ℕ → ℕ → ℝ) (g : ℕ → ℕ → ℕ → ℕ)
    (h0 : ∀ (k : Fin 19) (b : Fin 1), gt (ix2 k b) = ((Fold.upTo x g k 0 63 : ℝ) : EReal))
    (h1 : ∀ (k : Fin 19) (b : Fin 1), ok (ix2 k b) = ((Fold.upTo x g k 1 63 : ℝ) : EReal))
    (h2 : ∀ (k : Fin 19) (b : Fin 1), cs (ix2 k b) = ((Fold.upTo x g k 2 63 : ℝ) : EReal)) (y : S1x1.Idx) :
    k0_pay4 gt ok cs y = ((meanLoss x g : ℝ) : EReal) := by
  rw [pay4_apply gt ok cs (fun k => Fold.upTo x g k 0 63) (fun k => Fold.upTo x g k 1 63) (fun k => Fold.upTo x g k 2 63)
    (fun k => h0 k 0) (fun k => h1 k 0) (fun k => h2 k 0) y]
  refine congrArg _ (congrArg (· / 2097152) (Finset.sum_congr rfl fun k _ => ?_))
  rw [upTo_missed, upTo_members, upTo_loss]
  rfl

end Cert.KernelIdeal.Block
-- ==== Proof.RefTerm.lean ====
/- The reference, stage by stage: the named arrays between its two arguments and its result, and its run. -/
module

public import proofs.«01_k».proof.Proof.Gen.ReferenceIdeal
public import Idealize.ShloMosaic.Lib.Claim

@[expose] public section

noncomputable section

namespace Cert.ReferenceIdeal.Term

open Cert.ReferenceIdeal Cert.ReferenceIdeal.Gen Idealize.ShloMosaic Idealize.ShloMosaic.TcCoe Idealize.SL.Sem

variable {F : FTy → Type} [FloatOps F]

section Stages

variable (A : FVec F S8x19x512x512 .f32) (B : IVec S8x512x512 32)

/-- The class predicted for each pixel. -/
def pred : IVec S8x512x512 32 := fun j =>
  (Host.argReduce reducer_argmax_f32_i32 A (iotaInDim S8x19x512x512 32 1) (constant (F := F) S_ .f32 0xFF800000#32) (constantI S_ 32 0#32)
    reducesTo_S8x19x512x512_S8x512x512_d1 h_S_ j).2

/-- One where the prediction is wrong, zero elsewhere, as one row of pixels. -/
def wrong : FVec F S2097152 .f32 := uitofp .f32 (shapeCast S2097152 (cmpi .ne (pred A) B) shapeCasts_S8x512x512_S2097152)

/-- The targets as one row, clipped below at zero. -/
def clipped : IVec S2097152 32 :=
  maxsi (broadcastInDim S2097152 ![] bcast_S_S2097152 (constantI S_ 32 0#32)) (shapeCast S2097152 B shapeCasts_S8x512x512_S2097152)

/-- The places the counts go to. -/
def places : IVec S2097152x1 32 :=
  broadcastInDim S2097152x1 ![0] bcast_S2097152_S2097152x1_0
    (select (cmpi .slt (clipped B) (broadcastInDim S2097152 ![] bcast_S_S2097152 (constantI S_ 32 0#32)))
      (addi (clipped B) (broadcastInDim S2097152 ![] bcast_S_S2097152 (constantI S_ 32 19#32))) (clipped B))

/-- The pixels of each class, as an integer. -/
def pixels : IVec S19 32 :=
  Host.scatter scatter_S19_S2097152x1_S2097152_n_0_0_1 IntOp.addi (broadcastInDim S19 ![] bcast_S_S19 (constantI S_ 32 0#32)) (places B)
    (broadcastInDim S2097152 ![] bcast_S_S2097152 (constantI S_ 32 1#32))

/-- The same as a float. -/
def gtCount : FVec F S19 .f32 := sitofp .f32 (pixels B)

/-- The wrong pixels of each class. -/
def fnCount : FVec F S19 .f32 :=
  Host.scatterAdd scatter_S19_S2097152x1_S2097152_n_0_0_1
    (broadcastInDim S19 ![] bcast_S_S19 (constant (F := F) S_ .f32 0x00000000#32)) (places B) (wrong A B)

/-- A count, or one where the count is zero. -/
def counter (v : FVec F S19 .f32) : FVec F S19 .f32 :=
  select (cmpf .ogt v (broadcastInDim S19 ![] bcast_S_S19 (constant (F := F) S_ .f32 0x00000000#32))) v
    (broadcastInDim S19 ![] bcast_S_S19 (constant (F := F) S_ .f32 0x3F800000#32))

/-- The weight of each class. -/
def weight : FVec F S19 .f32 := Host.divf (counter (fnCount A B)) (counter (gtCount B))

/-- The top score of each pixel. -/
def top : FVec F S8x512x512 .f32 :=
  maximumf (broadcastInDim S8x512x512 ![] bcast_S_S8x512x512 (constant (F := F) S_ .f32 0xFF800000#32))
    (Host.reduce FloatOps.maximumf A (constant (F := F) S_ .f32 0xFF800000#32) reducesTo_S8x19x512x512_S8x512x512_d1 h_S_)

/-- The scores less the top score of their pixel. -/
def shifted : FVec F S8x19x512x512 .f32 :=
  subf A (broadcastInDim S8x19x512x512 ![0, 1, 2, 3] bcast_S8x1x512x512_S8x19x512x512_0_1_2_3
    (broadcastInDim S8x1x512x512 ![0, 2, 3] bcast_S8x512x512_S8x1x512x512_0_2_3 (top A)))

/-- The sum of the exponentials of those. -/
def sumExp : FVec F S8x512x512 .f32 :=
  Host.reduceAdd (Host.exp (shifted A)) (constant (F := F) S_ .f32 0x00000000#32) reducesTo_S8x19x512x512_S8x512x512_d1 h_S_

/-- The logarithm of the softmax. -/
def logp : FVec F S8x19x512x512 .f32 :=
  subf (shifted A) (broadcastInDim S8x19x512x512 ![0, 1, 2, 3] bcast_S8x1x512x512_S8x19x512x512_0_1_2_3
    (Host.log (broadcastInDim S8x1x512x512 ![0, 2, 3] bcast_S8x512x512_S8x1x512x512_0_2_3 (sumExp A))))

/-- The targets, given the class axis. -/
def lifted : IVec S8x1x512x512 32 := broadcastInDim S8x1x512x512 ![0, 2, 3] bcast_S8x512x512_S8x1x512x512_0_2_3 B

/-- The class each pixel's loss is read at. -/
def picks : IVec S8x1x512x512x1 32 :=
  shapeCast S8x1x512x512x1
    (select (cmpi .slt (lifted B) (broadcastInDim S8x1x512x512 ![] bcast_S_S8x1x512x512 (constantI S_ 32 0#32)))
      (addi (lifted B) (broadcastInDim S8x1x512x512 ![] bcast_S_S8x1x512x512 (constantI S_ 32 19#32))) (lifted B))
    shapeCasts_S8x1x512x512_S8x1x512x512x1

/-- Whether that class lies in the array. -/
def inside : IVec S8x1x512x512 1 :=
  Host.reduce IntOp.andi
    (andi (cmpi .sge (picks B) (broadcastInDim S8x1x512x512x1 ![] bcast_S_S8x1x512x512x1 (constantI S_ 32 0#32)))
      (cmpi .sle (picks B) (broadcastInDim S8x1x512x512x1 ![0, 1, 2, 3, 4] bcast_S1x1x1x1x1_S8x1x512x512x1_0_1_2_3_4
        (broadcastInDim S1x1x1x1x1 ![4] bcast_S1_S1x1x1x1x1_4 (constantI S1 32 18#32)))))
    (constantI S_ 1 1#1) reducesTo_S8x1x512x512x1_S8x1x512x512_d4 h_S_

/-- The log-probability of each pixel's target. -/
def taken : FVec F S8x1x512x512 .f32 :=
  select (inside B) (Host.gather gather_S8x19x512x512_S8x1x512x512x1_S8x1x512x512_n_1_023_023_1_4_1111 (logp A) (picks B))
    (broadcastInDim S8x1x512x512 ![] bcast_S_S8x1x512x512 (constant (F := F) S_ .f32 0x7FC00000#32))

/-- The cross entropy of each pixel. -/
def entropy : FVec F S8x512x512 .f32 := Host.negf (shapeCast S8x512x512 (taken A B) shapeCasts_S8x1x512x512_S8x512x512)

/-- The class each pixel's weight is read at. -/
def chosen : IVec S8x512x512x1 32 :=
  broadcastInDim S8x512x512x1 ![0, 1, 2] bcast_S8x512x512_S8x512x512x1_0_1_2
    (select (cmpi .slt B (broadcastInDim S8x512x512 ![] bcast_S_S8x512x512 (constantI S_ 32 0#32)))
      (addi B (broadcastInDim S8x512x512 ![] bcast_S_S8x512x512 (constantI S_ 32 19#32))) B)

/-- The weighted loss of each pixel. -/
def weighted : FVec F S8x512x512 .f32 :=
  mulf (Host.gather gather_S19_S8x512x512x1_S8x512x512_n_0_n_n_0_3_1 (weight A B) (chosen B)) (entropy A B)

/-- The mean of those. -/
def result : FVec F S1x1 .f32 :=
  shapeCast S1x1 (Host.divf (Host.reduceAdd (weighted A B) (constant (F := F) S_ .f32 0x00000000#32) reducesTo_S8x512x512_S_d0_1_2 h_S_)
    (constant (F := F) S_ .f32 0x4A000000#32)) shapeCasts_S_S1x1

end Stages

end Cert.ReferenceIdeal.Term
-- ==== Proof.RefRun.lean ====
/- The run of the reference: it ends with its result at the composed stages of its arguments. -/
module

public import proofs.«01_k».proof.Proof.RefTerm
public import Idealize.ShloMosaic.Adequacy
public import Idealize.ShloMosaic.Init
public import Idealize.ShloMosaic.Lib.Tactic.CleanTypes

@[expose] public section

noncomputable section

namespace Cert.ReferenceIdeal.Term

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (g : Dev nD → PrngReg)

set_option maxRecDepth 65536 in
/-- Every run of the reference ends with its result array at the composed stages, its arguments as they were. -/
theorem run : θ_run defs (onTc (τ := τ) (main (F := F))) ⟨m, fun _ => 0, g⟩ fun r => ∀ c : Dev nD,
    r.2.mem ((c : Thread nD τ).loc main_v47) = result (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  hlo_run
  simp (config := { implicitDefEqProofs := false }) only [StableHlo.TRef.ofBuf_toBuf, StableHlo.TRef.toBuf, StableHlo.TRef.ofBuf, cast_eq]
  unfold result weighted entropy chosen weight taken inside logp sumExp shifted top counter fnCount gtCount pixels wrong picks lifted places clipped pred
  clean_types
  rfl

end Cert.ReferenceIdeal.Term
-- ==== Proof.RefReads.lean ====
/- Where the reference's two scatters write and what its two gathers read. -/
module

public import proofs.«01_k».proof.Proof.RefTerm
public import Idealize.ShloMosaic.Lib.Pointwise
public import Idealize.ShloMosaic.Lib.Routing.OpsPair

@[expose] public section

noncomputable section

namespace Cert.ReferenceIdeal.Term

open Cert.ReferenceIdeal Cert.ReferenceIdeal.Gen Idealize.ShloMosaic Idealize.ShloMosaic.TcCoe Idealize.SL.Sem

/-- An update of the counting scatter starts at its index word, read signed. -/
theorem scatter_start (idx : IVec S2097152x1 32) (n : Fin 2097152) :
    scatter_S19_S2097152x1_S2097152_n_0_0_1.start (ix1 n) idx (0 : Fin 1) = (idx (ix2 n 0)).toInt := by
  unfold ScatterDims.start
  rw [dif_pos (by decide)]
  refine congrArg (fun z => (idx z).toInt) ?_
  funext a
  fin_cases a
  · rfl
  · rfl

/-- An update of the counting scatter lands at class `c` exactly when its index word is `c`. -/
theorem scatter_lands (idx : IVec S2097152x1 32) (n : Fin 2097152) (c : Fin 19) :
    scatter_S19_S2097152x1_S2097152_n_0_0_1.resultIdx? (ix1 n) idx = some (ix1 c) ↔ (idx (ix2 n 0)).toInt = (c.val : ℤ) := by
  rw [Routing.resultIdx?_eq_some]
  have hw : scatter_S19_S2097152x1_S2097152_n_0_0_1.window (ix1 n) (0 : Fin 1) = 0 := rfl
  constructor
  · intro h
    have h0 := h (0 : Fin 1)
    rw [scatter_start, hw] at h0
    simpa using h0
  · intro h a
    obtain rfl : a = (0 : Fin 1) := Subsingleton.elim _ _
    rw [scatter_start, hw, h]
    rfl

/-- The gather of the weights reads the class its index word names. -/
theorem gather_weight {α : Type} (v : S19.Idx → α) (idx : IVec S8x512x512x1 32) (b : Fin 8) (r q : Fin 512) (c : Fin 19)
    (h : idx (ix4 b r q 0) = BitVec.ofNat 32 c.val) :
    Host.gather gather_S19_S8x512x512x1_S8x512x512_n_0_n_n_0_3_1 v idx (ix3 b r q) = v (ix1 c) := by
  unfold Host.gather
  refine congrArg v (funext fun a => Fin.ext ?_)
  obtain rfl : a = (0 : Fin 1) := Subsingleton.elim _ _
  have hs : gather_S19_S8x512x512x1_S8x512x512_n_0_n_n_0_3_1.start (ix3 b r q) idx (0 : Fin 1) = c.val := by
    unfold GatherDims.start
    rw [dif_pos (by decide)]
    have hi : gather_S19_S8x512x512x1_S8x512x512_n_0_n_n_0_3_1.siIdx (ix3 b r q) ⟨0, by decide⟩ = ix4 b r q 0 := by
      funext a
      fin_cases a <;> rfl
    refine (congrArg (fun z => min (idx z).toInt.toNat 18) hi).trans ?_
    have hc := c.isLt
    show min (idx (ix4 b r q 0)).toInt.toNat 18 = c.val
    rw [h, StableHlo.Predicate.toInt_ofNat_small _ (by omega)]
    omega
  show gather_S19_S8x512x512x1_S8x512x512_n_0_n_n_0_3_1.start (ix3 b r q) idx (0 : Fin 1)
    + gather_S19_S8x512x512x1_S8x512x512_n_0_n_n_0_3_1.batchCoord (ix3 b r q) (0 : Fin 1)
    + gather_S19_S8x512x512x1_S8x512x512_n_0_n_n_0_3_1.offCoord (ix3 b r q) (0 : Fin 1) = c.val
  rw [hs]
  rfl

/-- The gather of the log-probabilities reads the class its index word names, at the same pixel. -/
theorem gather_logp {α : Type} (v : S8x19x512x512.Idx → α) (idx : IVec S8x1x512x512x1 32) (b : Fin 8) (r q : Fin 512) (c : Fin 19)
    (h : idx (ix5 b 0 r q 0) = BitVec.ofNat 32 c.val) :
    Host.gather gather_S8x19x512x512_S8x1x512x512x1_S8x1x512x512_n_1_023_023_1_4_1111 v idx (ix4 b 0 r q) = v (ix4 b c r q) := by
  unfold Host.gather
  have hs : gather_S8x19x512x512_S8x1x512x512x1_S8x1x512x512_n_1_023_023_1_4_1111.start (ix4 b 0 r q) idx (1 : Fin 4) = c.val := by
    unfold GatherDims.start
    rw [dif_pos (by decide)]
    have hi : gather_S8x19x512x512_S8x1x512x512x1_S8x1x512x512_n_1_023_023_1_4_1111.siIdx (ix4 b 0 r q) ⟨0, by decide⟩ = ix5 b 0 r q 0 := by
      funext a
      fin_cases a <;> rfl
    refine (congrArg (fun z => min (idx z).toInt.toNat 18) hi).trans ?_
    have hc := c.isLt
    show min (idx (ix5 b 0 r q 0)).toInt.toNat 18 = c.val
    rw [h, StableHlo.Predicate.toInt_ofNat_small _ (by omega)]
    omega
  refine congrArg v (funext fun a => Fin.ext ?_)
  fin_cases a
  · show 0 + b.val + 0 = b.val
    omega
  · show gather_S8x19x512x512_S8x1x512x512x1_S8x1x512x512_n_1_023_023_1_4_1111.start (ix4 b 0 r q) idx (1 : Fin 4) + 0 + 0 = c.val
    rw [hs]
    rfl
  · show 0 + r.val + 0 = r.val
    omega
  · show 0 + q.val + 0 = q.val
    omega

end Cert.ReferenceIdeal.Term
-- ==== Proof.RefSoft.lean ====
/- The reference's cross entropy of a pixel, over real scores and targets that are classes. -/
module

public import proofs.«01_k».proof.Proof.RefReads
public import proofs.«01_k».proof.Proof.Regroup

@[expose] public section

noncomputable section

namespace Cert.ReferenceIdeal.Term

open Cert.ReferenceIdeal Cert.ReferenceIdeal.Gen Idealize.ShloMosaic Idealize.ShloMosaic.TcCoe Idealize.SL.Sem
open Cert.KernelIdeal.Block (topTo le_topTo topTo_mem expTo expTo_eq expTo_pos coe_sum)
open Cert.Sums (best nll)

variable (A : FVec Ideal S8x19x512x512 .f32) (B : IVec S8x512x512 32) (x : ℕ → ℕ → ℕ → ℕ → ℝ) (g : ℕ → ℕ → ℕ → ℕ)

/-- The largest of nineteen real scores. -/
theorem fold_top (f : Fin 19 → EReal) (y : ℕ → ℝ) (h : ∀ k, f k = ((y k : ℝ) : EReal)) :
    max (Ideal.ofBits FTy.f32 4286578688#32) (Finset.fold max (Ideal.ofBits FTy.f32 4286578688#32) f Finset.univ) = ((topTo y 18 : ℝ) : EReal) := by
  have hbot : Ideal.ofBits FTy.f32 4286578688#32 = (⊥ : EReal) := by simp [Ideal.ofBits, Ideal.ieee]
  rw [hbot, max_eq_right bot_le]
  refine le_antisymm ((Finset.fold_max_le _).2 ⟨bot_le, fun k _ => ?_⟩) ((Finset.le_fold_max _).2 (Or.inr ?_))
  · rw [h]
    exact EReal.coe_le_coe_iff.2 (le_topTo y 18 k (by omega))
  · obtain ⟨i, hi, he⟩ := topTo_mem y 18
    refine ⟨(⟨i, by omega⟩ : Fin 19), Finset.mem_univ _, ?_⟩
    rw [h, he]

/-- The maximum over the classes, at a pixel. -/
theorem reduce_max (X : FVec Ideal S8x19x512x512 .f32) (c : FVec Ideal S_ .f32) (b : Fin 8) (r q : Fin 512) :
    Host.reduce FloatOps.maximumf X c reducesTo_S8x19x512x512_S8x512x512_d1 h_S_ (ix3 b r q)
      = Finset.fold max (c (Shape.Idx.first h_S_)) (fun k : Fin 19 => X (ix4 b k r q)) Finset.univ := by
  simp -implicitDefEqProofs only [pointwise]

/-- The top scores, spelt out. -/
theorem top_eq : top A = maximumf (F := Ideal) (broadcastInDim S8x512x512 ![] bcast_S_S8x512x512 (constant (F := Ideal) S_ .f32 0xFF800000#32))
    (Host.reduce FloatOps.maximumf A (constant (F := Ideal) S_ .f32 0xFF800000#32) reducesTo_S8x19x512x512_S8x512x512_d1 h_S_) := rfl

/-- The larger of a broadcast literal and a score. -/
theorem max_literal (Y : FVec Ideal S8x512x512 .f32) (j : S8x512x512.Idx) :
    maximumf (F := Ideal) (broadcastInDim S8x512x512 ![] bcast_S_S8x512x512 (constant (F := Ideal) S_ .f32 0xFF800000#32)) Y j
      = max (Ideal.ofBits FTy.f32 4286578688#32) (Y j) := rfl

section

variable (hA : ∀ (b : Fin 8) (k : Fin 19) (r q : Fin 512), A (ix4 b k r q) = ((x b k r q : ℝ) : EReal))

include hA

/-- The top score of a pixel. -/
theorem top_apply (b : Fin 8) (r q : Fin 512) : top A (ix3 b r q) = ((best x b r q : ℝ) : EReal) := by
  rw [top_eq, max_literal, reduce_max]
  exact fold_top (fun k => A (ix4 b k r q)) (fun i => x b i r q) fun k => hA b k r q

/-- A score less the top score. -/
theorem shifted_apply (b : Fin 8) (k : Fin 19) (r q : Fin 512) :
    shifted A (ix4 b k r q) = ((x b k r q - best x b r q : ℝ) : EReal) := by
  pointwise [shifted]
  rw [hA, top_apply A x hA, EReal.coe_sub]

/-- The sum of the exponentials of those. -/
theorem sumExp_apply (b : Fin 8) (r q : Fin 512) :
    sumExp A (ix3 b r q) = ((expTo (fun i => x b i r q) 18 * Real.exp (-best x b r q) : ℝ) : EReal) := by
  pointwise [sumExp]
  have h : ∀ k : Fin 19, Ideal.exp (shifted A (ix4 b k r q)) = ((Real.exp (x b k r q) * Real.exp (-best x b r q) : ℝ) : EReal) := by
    intro k
    rw [shifted_apply A x hA, Ideal.exp_coe, sub_eq_add_neg, Real.exp_add]
  rw [Finset.sum_congr rfl fun k _ => h k, ← coe_sum, ← Finset.sum_mul, expTo_eq,
    Fin.sum_univ_eq_sum_range (fun i => Real.exp (x b i r q)) 19]

/-- The log-probability of a class: the shift by the top score cancels. -/
theorem logp_apply (b : Fin 8) (k : Fin 19) (r q : Fin 512) :
    logp A (ix4 b k r q) = ((-nll x k b r q : ℝ) : EReal) := by
  pointwise [logp]
  have hpos : 0 < expTo (fun i => x b i r q) 18 * Real.exp (-best x b r q) := mul_pos (expTo_pos _ _) (Real.exp_pos _)
  rw [shifted_apply A x hA, sumExp_apply A x hA, Ideal.log_coe, if_neg (not_le.2 hpos), ← EReal.coe_sub]
  refine congrArg _ ?_
  rw [Real.log_mul (expTo_pos _ _).ne' (Real.exp_pos _).ne', Real.log_exp, nll]
  ring

end

section

variable (hB : ∀ (b : Fin 8) (r q : Fin 512), B (ix3 b r q) = BitVec.ofNat 32 (g b r q) ∧ g b r q < 19)

include hB

/-- The class a pixel's loss is read at is its target. -/
theorem picks_apply (b : Fin 8) (r q : Fin 512) : picks B (ix5 b 0 r q 0) = BitVec.ofNat 32 (g b r q) := by
  pointwise [picks, lifted]
  obtain ⟨h, hlt⟩ := hB b r q
  rw [h]
  refine Routing.wrap_of_lt _ _ ?_
  rw [BitVec.toNat_ofNat]
  omega

/-- That class lies in the array. -/
theorem inside_apply (b : Fin 8) (r q : Fin 512) : inside B (ix4 b 0 r q) = 1#1 := by
  have hw : ∀ i : Fin 19, IntOp.andi (IntOp.cmpi .sge (BitVec.ofNat 32 i.val) 0#32) (IntOp.cmpi .sle (BitVec.ofNat 32 i.val) 18#32) = 1#1 := by
    decide
  pointwise [inside]
  rw [Finset.univ_unique, Finset.fold_singleton]
  have h := picks_apply B g hB b r q
  have hlt := (hB b r q).2
  have hd : (default : Fin 1) = 0 := rfl
  rw [hd, h, hw ⟨g b r q, hlt⟩]
  rfl

/-- The class a pixel's weight is read at is its target. -/
theorem chosen_apply (b : Fin 8) (r q : Fin 512) : chosen B (ix4 b r q 0) = BitVec.ofNat 32 (g b r q) := by
  pointwise [chosen]
  obtain ⟨h, hlt⟩ := hB b r q
  rw [h]
  refine Routing.wrap_of_lt _ _ ?_
  rw [BitVec.toNat_ofNat]
  omega

/-- The place a pixel's counts go to is its target. -/
theorem places_apply (n : Fin 2097152) : places B (ix2 n 0) = BitVec.ofNat 32 (g (n.val / 262144) (n.val / 512 % 512) (n.val % 512)) := by
  have hw : ∀ i : Fin 19, Scalar.select (IntOp.cmpi .slt (IntOp.maxsi 0#32 (BitVec.ofNat 32 i.val)) 0#32)
      (IntOp.addi (IntOp.maxsi 0#32 (BitVec.ofNat 32 i.val)) 19#32) (IntOp.maxsi 0#32 (BitVec.ofNat 32 i.val)) = BitVec.ofNat 32 i.val := by
    decide
  have hn := n.isLt
  obtain ⟨h, hlt⟩ := hB ⟨n.val / 262144, by omega⟩ ⟨n.val / 512 % 512, by omega⟩ ⟨n.val % 512, by omega⟩
  pointwise [places, clipped]
  rw [h]
  exact hw ⟨_, hlt⟩

variable (hA : ∀ (b : Fin 8) (k : Fin 19) (r q : Fin 512), A (ix4 b k r q) = ((x b k r q : ℝ) : EReal))

include hA

/-- The log-probability of a pixel's target. -/
theorem taken_apply (b : Fin 8) (r q : Fin 512) : taken A B (ix4 b 0 r q) = ((-nll x (g b r q) b r q : ℝ) : EReal) := by
  have hlt := (hB b r q).2
  have hgat := gather_logp (logp A) (picks B) b r q ⟨g b r q, hlt⟩ (picks_apply B g hB b r q)
  have hsel : taken A B (ix4 b 0 r q) = Scalar.select (inside B (ix4 b 0 r q))
      (Host.gather gather_S8x19x512x512_S8x1x512x512x1_S8x1x512x512_n_1_023_023_1_4_1111 (logp A) (picks B) (ix4 b 0 r q))
      (Ideal.ofBits FTy.f32 2143289344#32) := by
    pointwise [taken]
  rw [hsel, inside_apply B g hB, hgat]
  exact logp_apply A x hA b ⟨g b r q, hlt⟩ r q

omit hA hB in
/-- The negative of an array that is given one axis less. -/
theorem neg_cast (Y : FVec Ideal S8x1x512x512 .f32) (b : Fin 8) (r q : Fin 512) :
    Host.negf (shapeCast S8x512x512 Y shapeCasts_S8x1x512x512_S8x512x512) (ix3 b r q) = -Y (ix4 b 0 r q) := by
  pointwise []

omit hA hB in
/-- The cross entropies, spelt out. -/
theorem entropy_eq : entropy A B = Host.negf (shapeCast S8x512x512 (taken A B) shapeCasts_S8x1x512x512_S8x512x512) := rfl

/-- The cross entropy of a pixel. -/
theorem entropy_apply (b : Fin 8) (r q : Fin 512) : entropy A B (ix3 b r q) = ((nll x (g b r q) b r q : ℝ) : EReal) := by
  rw [entropy_eq, neg_cast, taken_apply A B x g hB hA, ← EReal.coe_neg, neg_neg]

end

end Cert.ReferenceIdeal.Term
-- ==== Proof.RefCount.lean ====
/- The reference's counts of each class and its mean, over real scores and targets that are classes. -/
module

public import proofs.«01_k».proof.Proof.RefSoft

@[expose] public section

noncomputable section

namespace Cert.ReferenceIdeal.Term

open Cert.ReferenceIdeal Cert.ReferenceIdeal.Gen Idealize.ShloMosaic Idealize.ShloMosaic.TcCoe Idealize.SL.Sem
open Cert.KernelIdeal.Block (coe_sum)
open Cert.Sums (best nll pixelSum members missed classWeight meanLoss orOne)

/-- A fold that adds one where a condition holds counts it. -/
theorem fold_count {α : Type} (P : α → Prop) [DecidablePred P] : ∀ (L : List α) (m : ℕ),
    L.foldl (fun (a : BitVec 32) n => if P n then IntOp.addi a 1#32 else a) (BitVec.ofNat 32 m)
      = BitVec.ofNat 32 (m + (L.map fun n => if P n then 1 else 0).sum)
  | [], m => by simp
  | n :: L, m => by
    rw [List.foldl_cons, List.map_cons, List.sum_cons]
    by_cases h : P n
    · have e : IntOp.addi (BitVec.ofNat 32 m) 1#32 = BitVec.ofNat 32 (m + 1) := by
        rw [BitVec.ofNat_add]
        rfl
      rw [if_pos h, if_pos h, e, fold_count P L (m + 1), Nat.add_assoc]
    · rw [if_neg h, if_neg h, fold_count P L m, Nat.zero_add]

/-- Ones scattered onto a zero count the updates that land there. -/
theorem scatter_ones {s si u : Shape} {w : ℕ} (d : ScatterDims s si u) (x0 : s.Idx → BitVec 32) (idx : IVec si w) (upd : u.Idx → BitVec 32)
    (i : s.Idx) (h0 : x0 i = 0#32) (h1 : ∀ j, upd j = 1#32) :
    Host.scatter d IntOp.addi x0 idx upd i = BitVec.ofNat 32 (∑ j : u.Idx, if d.resultIdx? j idx = some i then 1 else 0) := by
  rw [Routing.scatter_at, h0]
  have hf : (fun (a : BitVec 32) (n : Fin u.numel) => if d.resultIdx? (u.rowMajor.symm n) idx = some i then IntOp.addi a (upd (u.rowMajor.symm n)) else a)
      = fun a n => if d.resultIdx? (u.rowMajor.symm n) idx = some i then IntOp.addi a 1#32 else a := by
    funext a n
    rw [h1]
  rw [hf]
  refine (fold_count (fun n : Fin u.numel => d.resultIdx? (u.rowMajor.symm n) idx = some i) (List.finRange u.numel) 0).trans ?_
  refine congrArg (BitVec.ofNat 32) ?_
  rw [Nat.zero_add, ← Fin.sum_univ_def]
  exact Equiv.sum_comp u.rowMajor.symm fun j => if d.resultIdx? j idx = some i then 1 else 0

section

variable (A : FVec Ideal S8x19x512x512 .f32) (B : IVec S8x512x512 32) (x : ℕ → ℕ → ℕ → ℕ → ℝ) (g : ℕ → ℕ → ℕ → ℕ)

/-- The pixels of a class, at any places. -/
theorem ones_at (x0 : IVec S19 32) (idx : IVec S2097152x1 32) (upd : IVec S2097152 32) (c : Fin 19) (h0 : x0 (ix1 c) = 0#32) (h1 : ∀ j, upd j = 1#32) :
    Host.scatter scatter_S19_S2097152x1_S2097152_n_0_0_1 IntOp.addi x0 idx upd (ix1 c)
      = BitVec.ofNat 32 (∑ n : Fin 2097152, if (idx (ix2 n 0)).toInt = (c.val : ℤ) then 1 else 0) := by
  refine (scatter_ones scatter_S19_S2097152x1_S2097152_n_0_0_1 x0 idx upd (ix1 c) h0 h1).trans ?_
  refine congrArg (BitVec.ofNat 32) ?_
  refine (sum_idx1 _).trans (Finset.sum_congr rfl fun n _ => ?_)
  exact if_congr (scatter_lands idx n c) rfl rfl

/-- The sum of the updates of a class, at any places. -/
theorem adds_at (x0 : FVec Ideal S19 .f32) (idx : IVec S2097152x1 32) (upd : FVec Ideal S2097152 .f32) (c : Fin 19) (h0 : x0 (ix1 c) = (0 : EReal)) :
    Host.scatterAdd scatter_S19_S2097152x1_S2097152_n_0_0_1 x0 idx upd (ix1 c)
      = ∑ n : Fin 2097152, if (idx (ix2 n 0)).toInt = (c.val : ℤ) then upd (ix1 n) else (0 : EReal) := by
  have hd : Host.scatterAdd scatter_S19_S2097152x1_S2097152_n_0_0_1 x0 idx upd (ix1 c)
      = x0 (ix1 c) + ∑ j ∈ Finset.univ.filter (fun j => scatter_S19_S2097152x1_S2097152_n_0_0_1.resultIdx? j idx = some (ix1 c)), upd j := rfl
  rw [hd, h0, zero_add, Finset.sum_filter]
  refine (sum_idx1 _).trans (Finset.sum_congr rfl fun n _ => ?_)
  exact if_congr (scatter_lands idx n c) rfl rfl

/-- The prediction against the target, at any prediction. -/
theorem differ_at (P : IVec S8x512x512 32) (n : Fin 2097152) :
    (uitofp (F := Ideal) .f32 (shapeCast S2097152 (cmpi .ne P B) shapeCasts_S8x512x512_S2097152) : FVec Ideal S2097152 .f32) (ix1 n)
      = FloatOps.uitofp (F := Ideal) .f32 (IntOp.cmpi .ne (P (ix3 ⟨n.val / 262144, by omega⟩ ⟨n.val / 512 % 512, by omega⟩ ⟨n.val % 512, by omega⟩))
          (B (ix3 ⟨n.val / 262144, by omega⟩ ⟨n.val / 512 % 512, by omega⟩ ⟨n.val % 512, by omega⟩))) := by
  pointwise []

/-- A comparison of words for inequality, as a number. -/
theorem differ_number (a b : BitVec 32) : (FloatOps.uitofp (F := Ideal) .f32 (IntOp.cmpi .ne a b) : EReal) = (((if a = b then 0 else 1 : ℝ)) : EReal) := by
  show ((((IntOp.cmpi .ne a b).toNat : ℝ)) : EReal) = _
  by_cases h : a = b
  · subst h
    simp [IntOp.cmpi]
  · simp [IntOp.cmpi, h]

/-- The integer counts, spelt out. -/
theorem pixels_eq : pixels B = Host.scatter scatter_S19_S2097152x1_S2097152_n_0_0_1 IntOp.addi (broadcastInDim S19 ![] bcast_S_S19 (constantI S_ 32 0#32)) (places B)
    (broadcastInDim S2097152 ![] bcast_S_S2097152 (constantI S_ 32 1#32)) := rfl

/-- The counts of the wrong pixels, spelt out. -/
theorem fnCount_eq : fnCount A B = Host.scatterAdd scatter_S19_S2097152x1_S2097152_n_0_0_1
    (broadcastInDim S19 ![] bcast_S_S19 (constant (F := Ideal) S_ .f32 0x00000000#32)) (places B) (wrong A B) := rfl

/-- Which pixels are wrong, spelt out. -/
theorem wrong_eq : wrong A B = uitofp (F := Ideal) .f32 (shapeCast S2097152 (cmpi .ne (pred A) B) shapeCasts_S8x512x512_S2097152) := rfl

/-- The weights, spelt out. -/
theorem weight_eq : weight A B = Host.divf (counter (fnCount A B)) (counter (gtCount B)) := rfl

/-- The weighted losses, spelt out. -/
theorem weighted_eq : weighted A B = mulf (Host.gather gather_S19_S8x512x512x1_S8x512x512_n_0_n_n_0_3_1 (weight A B) (chosen B)) (entropy A B) := rfl

/-- The mean, spelt out. -/
theorem result_eq : result A B = shapeCast S1x1 (Host.divf (Host.reduceAdd (weighted A B) (constant (F := Ideal) S_ .f32 0x00000000#32) reducesTo_S8x512x512_S_d0_1_2 h_S_)
      (constant (F := Ideal) S_ .f32 0x4A000000#32)) shapeCasts_S_S1x1 := rfl

/-- A count, or one, of a real count. -/
theorem counter_apply (v : FVec Ideal S19 .f32) (c : Fin 19) (y : ℝ) (h : v (ix1 c) = ((y : ℝ) : EReal)) :
    counter v (ix1 c) = ((orOne y : ℝ) : EReal) := by
  pointwise [counter]
  rw [h]
  unfold orOne
  by_cases hy : 0 < y
  · rw [if_pos (EReal.coe_pos.2 hy), if_pos hy]
  · rw [if_neg fun h' => hy (EReal.coe_pos.1 h'), if_neg hy]
    rfl

/-- A quotient of real numbers. -/
theorem div_reals (a b : ℝ) (hb : b ≠ 0) : Ideal.div (a : EReal) (b : EReal) = ((a / b : ℝ) : EReal) := by
  rw [Ideal.div_coe hb, ← EReal.coe_mul, mul_one_div]

/-- The mean of real weighted losses. -/
theorem mean_at (W : FVec Ideal S8x512x512 .f32) (f : ℕ → ℕ → ℕ → ℝ) (hW : ∀ (b : Fin 8) (r q : Fin 512), W (ix3 b r q) = ((f b r q : ℝ) : EReal)) :
    (shapeCast S1x1 (Host.divf (Host.reduceAdd W (constant (F := Ideal) S_ .f32 0x00000000#32) reducesTo_S8x512x512_S_d0_1_2 h_S_)
      (constant (F := Ideal) S_ .f32 0x4A000000#32)) shapeCasts_S_S1x1 : FVec Ideal S1x1 .f32) (ix2 0 0) = ((pixelSum f / 2097152 : ℝ) : EReal) := by
  have hc : Ideal.ofBits FTy.f32 1241513984#32 = ((2097152 : ℝ) : EReal) := by
    simp [Ideal.ofBits, Ideal.ieee, -EReal.coe_mul]
    norm_num
  have hs : ∑ b : Fin 8, ∑ r : Fin 512, ∑ q : Fin 512, W (ix3 b r q) = ((pixelSum f : ℝ) : EReal) := by
    rw [← Cert.Sums.sum_axes f, coe_sum]
    refine Finset.sum_congr rfl fun b _ => ?_
    rw [coe_sum]
    refine Finset.sum_congr rfl fun r _ => ?_
    rw [coe_sum]
    exact Finset.sum_congr rfl fun q _ => hW b r q
  pointwise []
  rw [hs, hc, div_reals _ _ (by norm_num)]

section

variable (hB : ∀ (b : Fin 8) (r q : Fin 512), B (ix3 b r q) = BitVec.ofNat 32 (g b r q) ∧ g b r q < 19)

include hB

/-- A pixel's counts land on its target. -/
theorem lands_iff (n : Fin 2097152) (c : Fin 19) :
    (places B (ix2 n 0)).toInt = (c.val : ℤ) ↔ g (n.val / 262144) (n.val / 512 % 512) (n.val % 512) = c.val := by
  have hn := n.isLt
  have hlt := (hB ⟨n.val / 262144, by omega⟩ ⟨n.val / 512 % 512, by omega⟩ ⟨n.val % 512, by omega⟩).2
  have hlt' : g (n.val / 262144) (n.val / 512 % 512) (n.val % 512) < 19 := hlt
  rw [places_apply B g hB, StableHlo.Predicate.toInt_ofNat_small _ (by omega)]
  exact Nat.cast_inj

/-- The pixels of a class. -/
theorem gtCount_apply (c : Fin 19) : gtCount (F := Ideal) B (ix1 c) = ((members g c : ℝ) : EReal) := by
  have hp := ones_at (broadcastInDim S19 ![] bcast_S_S19 (constantI S_ 32 0#32)) (places B)
    (broadcastInDim S2097152 ![] bcast_S_S2097152 (constantI S_ 32 1#32)) c rfl fun _ => rfl
  rw [← pixels_eq] at hp
  have hle : (∑ n : Fin 2097152, if (places B (ix2 n 0)).toInt = (c.val : ℤ) then 1 else 0) ≤ 2097152 := by
    refine (Finset.sum_le_card_nsmul Finset.univ _ 1 fun n _ => ?_).trans ?_
    · split <;> omega
    · rw [Finset.card_univ, Fintype.card_fin, smul_eq_mul, mul_one]
  have hs : gtCount (F := Ideal) B (ix1 c) = ((((pixels B (ix1 c)).toInt : ℝ)) : EReal) := rfl
  rw [hs, hp, StableHlo.Predicate.toInt_ofNat_small _ (by omega)]
  refine congrArg _ ?_
  unfold members
  rw [← Cert.Sums.sum_row fun b r q => if g b r q = c.val then (1 : ℝ) else 0]
  push_cast
  refine Finset.sum_congr rfl fun n _ => ?_
  exact if_congr (lands_iff B g hB n c) rfl rfl

variable (hP : ∀ (b : Fin 8) (r q : Fin 512), pred A (ix3 b r q) = B (ix3 b r q) ↔ x b (g b r q) r q = best x b r q)

include hP

/-- The wrong pixels of a class. -/
theorem fnCount_apply (c : Fin 19) : fnCount A B (ix1 c) = ((missed x g c : ℝ) : EReal) := by
  rw [fnCount_eq]
  refine (adds_at _ (places B) (wrong A B) c ?_).trans ?_
  · exact Ideal.ofBits_zero_f32
  · unfold missed
    rw [← Cert.Sums.sum_row fun b r q => if g b r q = c.val then (if x b c.val r q = best x b r q then (0 : ℝ) else 1) else 0, coe_sum]
    refine Finset.sum_congr rfl fun n _ => ?_
    have hn := n.isLt
    by_cases h : g (n.val / 262144) (n.val / 512 % 512) (n.val % 512) = c.val
    · rw [if_pos ((lands_iff B g hB n c).2 h), if_pos h, wrong_eq, differ_at, differ_number]
      refine congrArg _ (if_congr ?_ rfl rfl)
      have hp := hP ⟨n.val / 262144, by omega⟩ ⟨n.val / 512 % 512, by omega⟩ ⟨n.val % 512, by omega⟩
      refine hp.trans ?_
      show x (n.val / 262144) (g (n.val / 262144) (n.val / 512 % 512) (n.val % 512)) (n.val / 512 % 512) (n.val % 512) = _ ↔ _
      rw [h]
    · rw [if_neg fun h' => h ((lands_iff B g hB n c).1 h'), if_neg h]
      rfl

/-- The weight of a class. -/
theorem weight_apply (c : Fin 19) : weight A B (ix1 c) = ((classWeight x g c : ℝ) : EReal) := by
  rw [weight_eq]
  have hd : ∀ U V : FVec Ideal S19 .f32, Host.divf U V (ix1 c) = Ideal.div (U (ix1 c)) (V (ix1 c)) := fun _ _ => rfl
  rw [hd, counter_apply _ c _ (fnCount_apply A B x g hB hP c), counter_apply _ c _ (gtCount_apply B g hB c),
    div_reals _ _ (Cert.Sums.orOne_pos _).ne']
  rfl

variable (hA : ∀ (b : Fin 8) (k : Fin 19) (r q : Fin 512), A (ix4 b k r q) = ((x b k r q : ℝ) : EReal))

include hA

/-- The weighted loss of a pixel. -/
theorem weighted_apply (b : Fin 8) (r q : Fin 512) :
    weighted A B (ix3 b r q) = ((classWeight x g (g b r q) * nll x (g b r q) b r q : ℝ) : EReal) := by
  have hlt := (hB b r q).2
  rw [weighted_eq]
  have hm : ∀ U V : FVec Ideal S8x512x512 .f32, mulf U V (ix3 b r q) = (U (ix3 b r q) * V (ix3 b r q) : EReal) := fun _ _ => rfl
  rw [hm, gather_weight (weight A B) (chosen B) b r q ⟨g b r q, hlt⟩ (chosen_apply B g hB b r q), weight_apply A B x g hB hP,
    entropy_apply A B x g hB hA, ← EReal.coe_mul]

/-- The reference's result. -/
theorem result_apply (hg : ∀ b r q, b < 8 → r < 512 → q < 512 → g b r q < 19) : result A B (ix2 0 0) = ((meanLoss x g : ℝ) : EReal) := by
  rw [result_eq, mean_at (weighted A B) (fun b r q => classWeight x g (g b r q) * nll x (g b r q) b r q) (weighted_apply A B x g hB hP hA),
    Cert.Sums.meanLoss_eq x g hg]

end

end

end Cert.ReferenceIdeal.Term
-- ==== Proof.Argmax.lean ====
/- The class the reference predicts: the first of those with the top score. -/
module

public import proofs.«01_k».proof.Proof.RefTerm
public import Idealize.ShloMosaic.Lib.Pointwise
public import Idealize.ShloMosaic.Lib.Routing.OpsPair

@[expose] public section

noncomputable section

namespace Cert.ReferenceIdeal.Term

open Cert.ReferenceIdeal Cert.ReferenceIdeal.Gen Idealize.ShloMosaic Idealize.ShloMosaic.TcCoe Idealize.SL.Sem

/-- `r` is no worse than `p`: a greater score, or the same score at a class no later. -/
def Beats (r p : EReal × BitVec 32) : Prop := p.1 < r.1 ∨ (p.1 = r.1 ∧ r.2.toInt ≤ p.2.toInt)

/-- A pair is no worse than itself. -/
theorem Beats.refl (p : EReal × BitVec 32) : Beats p p := Or.inr ⟨rfl, le_refl _⟩

/-- No worse than is transitive. -/
theorem Beats.trans {p q r : EReal × BitVec 32} (h : Beats r q) (h' : Beats q p) : Beats r p := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The reduction's body on two pairs keeps one of them, no worse than either. -/
theorem step_spec (a b : EReal × BitVec 32) :
    (reducer_argmax_f32_i32 (F := Ideal) a b = a ∨ reducer_argmax_f32_i32 (F := Ideal) a b = b)
    ∧ Beats (reducer_argmax_f32_i32 (F := Ideal) a b) a ∧ Beats (reducer_argmax_f32_i32 (F := Ideal) a b) b := by
  obtain ⟨x, i⟩ := a
  obtain ⟨y, j⟩ := b
  have hne : FloatOps.cmpf (F := Ideal) (φ := .f32) .une x x = 0#1 := by
    show BitVec.ofBool (decide (x ≠ x)) = 0#1
    simp
  have hgt : FloatOps.cmpf (F := Ideal) (φ := .f32) .ogt x y = BitVec.ofBool (decide (y < x)) := by
    first | rfl | simp [Ideal.cmpf_def, Ideal.cmp]
  have heq : FloatOps.cmpf (F := Ideal) (φ := .f32) .oeq x y = BitVec.ofBool (decide (x = y)) := by
    first | rfl | simp [Ideal.cmpf_def, Ideal.cmp]
  have hlt : IntOp.cmpi .slt i j = BitVec.ofBool (decide (i.toInt < j.toInt)) := by
    first | rfl | simp [IntOp.cmpi]
  have hform : reducer_argmax_f32_i32 (F := Ideal) (x, i) (y, j)
      = (Scalar.select (IntOp.ori (BitVec.ofBool (decide (y < x))) 0#1) x y,
         Scalar.select (IntOp.ori (IntOp.ori (BitVec.ofBool (decide (y < x))) 0#1)
           (IntOp.andi (BitVec.ofBool (decide (x = y))) (BitVec.ofBool (decide (i.toInt < j.toInt))))) i j) := by
    unfold reducer_argmax_f32_i32
    simp only [hne, hgt, heq, hlt]
  rw [hform]
  by_cases h1 : y < x
  · have : (Scalar.select (IntOp.ori (BitVec.ofBool (decide (y < x))) 0#1) x y,
         Scalar.select (IntOp.ori (IntOp.ori (BitVec.ofBool (decide (y < x))) 0#1)
           (IntOp.andi (BitVec.ofBool (decide (x = y))) (BitVec.ofBool (decide (i.toInt < j.toInt))))) i j) = (x, i) := by
      have h2 : x ≠ y := ne_of_gt h1
      simp [h1, h2, Scalar.select, IntOp.ori, IntOp.andi]
    rw [this]
    exact ⟨Or.inl rfl, Beats.refl _, Or.inl h1⟩
  · by_cases h2 : x = y
    · subst h2
      by_cases h3 : i.toInt < j.toInt
      · have : (Scalar.select (IntOp.ori (BitVec.ofBool (decide (x < x))) 0#1) x x,
         Scalar.select (IntOp.ori (IntOp.ori (BitVec.ofBool (decide (x < x))) 0#1)
           (IntOp.andi (BitVec.ofBool (decide (x = x))) (BitVec.ofBool (decide (i.toInt < j.toInt))))) i j) = (x, i) := by
          simp [h3, Scalar.select, IntOp.ori, IntOp.andi]
        rw [this]
        exact ⟨Or.inl rfl, Beats.refl _, Or.inr ⟨rfl, le_of_lt h3⟩⟩
      · have : (Scalar.select (IntOp.ori (BitVec.ofBool (decide (x < x))) 0#1) x x,
         Scalar.select (IntOp.ori (IntOp.ori (BitVec.ofBool (decide (x < x))) 0#1)
           (IntOp.andi (BitVec.ofBool (decide (x = x))) (BitVec.ofBool (decide (i.toInt < j.toInt))))) i j) = (x, j) := by
          simp [h3, Scalar.select, IntOp.ori, IntOp.andi]
        rw [this]
        exact ⟨Or.inr rfl, Or.inr ⟨rfl, not_lt.1 h3⟩, Beats.refl _⟩
    · have : (Scalar.select (IntOp.ori (BitVec.ofBool (decide (y < x))) 0#1) x y,
         Scalar.select (IntOp.ori (IntOp.ori (BitVec.ofBool (decide (y < x))) 0#1)
           (IntOp.andi (BitVec.ofBool (decide (x = y))) (BitVec.ofBool (decide (i.toInt < j.toInt))))) i j) = (y, j) := by
        simp [h1, h2, Scalar.select, IntOp.ori, IntOp.andi]
      rw [this]
      exact ⟨Or.inr rfl, Or.inl (lt_of_le_of_ne (not_lt.1 h1) h2), Beats.refl _⟩

/-- The fold of that body over a list keeps one pair, no worse than all of them. -/
theorem fold_spec : ∀ (L : List (EReal × BitVec 32)) (a : EReal × BitVec 32),
    (L.foldl (reducer_argmax_f32_i32 (F := Ideal)) a = a ∨ L.foldl (reducer_argmax_f32_i32 (F := Ideal)) a ∈ L)
    ∧ Beats (L.foldl (reducer_argmax_f32_i32 (F := Ideal)) a) a
    ∧ ∀ p ∈ L, Beats (L.foldl (reducer_argmax_f32_i32 (F := Ideal)) a) p
  | [], a => ⟨Or.inl rfl, Beats.refl _, fun p hp => absurd hp List.not_mem_nil⟩
  | b :: L, a => by
    obtain ⟨hs, ha, hb⟩ := step_spec a b
    obtain ⟨hm, h0, hL⟩ := fold_spec L (reducer_argmax_f32_i32 (F := Ideal) a b)
    rw [List.foldl_cons]
    refine ⟨?_, h0.trans ha, fun p hp => ?_⟩
    · rcases hm with hm | hm
      · rcases hs with hs | hs
        · exact Or.inl (hm.trans hs)
        · exact Or.inr (by rw [hm, hs]; exact List.mem_cons_self)
      · exact Or.inr (List.mem_cons_of_mem _ hm)
    · rcases List.mem_cons.mp hp with rfl | hp
      · exact h0.trans hb
      · exact hL p hp

/-- The pairs the reduction meets at a pixel are the scores of that pixel with their classes. -/
theorem mem_fiber {β : Type} (x : S8x19x512x512.Idx → EReal) (y : S8x19x512x512.Idx → β) (b : Fin 8) (r q : Fin 512) (p : EReal × β) :
    p ∈ Host.argReduceFiber x y reducesTo_S8x19x512x512_S8x512x512_d1 (ix3 b r q) ↔ ∃ k : Fin 19, (x (ix4 b k r q), y (ix4 b k r q)) = p := by
  unfold Host.argReduceFiber
  rw [List.mem_map]
  constructor
  · rintro ⟨n, hn, rfl⟩
    rw [List.mem_filter, decide_eq_true_eq] at hn
    obtain ⟨k, hk⟩ := (Shape.ReducesTo.fiber_r4_a1 reducesTo_S8x19x512x512_S8x512x512_d1 (ix3 b r q) _).1 hn.2
    refine ⟨k, ?_⟩
    have hk' : ix4 b k r q = S8x19x512x512.rowMajor.symm n := hk
    rw [hk']
  · rintro ⟨k, rfl⟩
    refine ⟨S8x19x512x512.rowMajor (ix4 b k r q), ?_, ?_⟩
    · rw [List.mem_filter, decide_eq_true_eq]
      refine ⟨List.mem_finRange _, ?_⟩
      refine (Shape.ReducesTo.fiber_r4_a1 reducesTo_S8x19x512x512_S8x512x512_d1 (ix3 b r q) _).2 ⟨k, ?_⟩
      rw [Equiv.symm_apply_apply]
      rfl
    · rw [Equiv.symm_apply_apply]

/-- The reduction at a pixel, as the fold of its body over the pixel's pairs. -/
theorem reduce_fold (x : FVec Ideal S8x19x512x512 .f32) (y : IVec S8x19x512x512 32) (ix : FVec Ideal S_ .f32) (iy : IVec S_ 32)
    (e : EReal) (w : BitVec 32) (hx : ∀ i, ix i = e) (hy : ∀ i, iy i = w) (j : S8x512x512.Idx) :
    Host.argReduce (reducer_argmax_f32_i32 (F := Ideal)) x y ix iy reducesTo_S8x19x512x512_S8x512x512_d1 h_S_ j
      = (Host.argReduceFiber x y reducesTo_S8x19x512x512_S8x512x512_d1 j).foldl (reducer_argmax_f32_i32 (F := Ideal)) (e, w) := by
  refine (congrFun (Ideal.argReduce_eq_reduce2 _ _ _ _ _ _ _) j).trans ?_
  refine (Host.reduce2_eq_foldl_fiber _ _ _ _ _ _ _ _).trans ?_
  rw [hx, hy]

/-- The predicted classes, spelt out. -/
theorem pred_eq (A : FVec Ideal S8x19x512x512 .f32) : pred A = fun j =>
    (Host.argReduce (reducer_argmax_f32_i32 (F := Ideal)) A (iotaInDim S8x19x512x512 32 1) (constant (F := Ideal) S_ .f32 0xFF800000#32) (constantI S_ 32 0#32)
      reducesTo_S8x19x512x512_S8x512x512_d1 h_S_ j).2 := rfl

/-- The predicted class has the pixel's top score, and it is the first that has. -/
theorem pred_spec (A : FVec Ideal S8x19x512x512 .f32) (b : Fin 8) (r q : Fin 512) (hA : ∀ k : Fin 19, (⊥ : EReal) < A (ix4 b k r q)) :
    ∃ c : Fin 19, pred A (ix3 b r q) = BitVec.ofNat 32 c.val
      ∧ ∀ k : Fin 19, A (ix4 b k r q) < A (ix4 b c r q) ∨ (A (ix4 b k r q) = A (ix4 b c r q) ∧ c.val ≤ k.val) := by
  have hp : pred A (ix3 b r q) = ((Host.argReduceFiber A (iotaInDim S8x19x512x512 32 1) reducesTo_S8x19x512x512_S8x512x512_d1 (ix3 b r q)).foldl
      (reducer_argmax_f32_i32 (F := Ideal)) ((⊥ : EReal), 0#32)).2 := by
    refine (congrFun (pred_eq A) (ix3 b r q)).trans (congrArg Prod.snd (reduce_fold A _ _ _ ⊥ 0#32 (fun i => ?_) (fun i => rfl) (ix3 b r q)))
    show Ideal.ofBits .f32 0xFF800000#32 = ⊥
    simp [Ideal.ofBits, Ideal.ieee]
  obtain ⟨hm, h0, hL⟩ := fold_spec (Host.argReduceFiber A (iotaInDim S8x19x512x512 32 1) reducesTo_S8x19x512x512_S8x512x512_d1 (ix3 b r q)) ((⊥ : EReal), 0#32)
  generalize List.foldl (reducer_argmax_f32_i32 (F := Ideal)) ((⊥ : EReal), 0#32)
    (Host.argReduceFiber A (iotaInDim S8x19x512x512 32 1) reducesTo_S8x19x512x512_S8x512x512_d1 (ix3 b r q)) = z at hp hm h0 hL
  have hmem : ∀ k : Fin 19, Beats z (A (ix4 b k r q), BitVec.ofNat 32 k.val) := fun k =>
    hL _ ((mem_fiber _ _ b r q _).2 ⟨k, rfl⟩)
  rcases hm with hm | hm
  · exfalso
    have h := hmem 0
    rw [hm] at h
    rcases h with h | ⟨h, -⟩
    · exact absurd h not_lt_bot
    · exact absurd h (ne_of_gt (hA 0))
  · obtain ⟨c, hc⟩ := (mem_fiber _ _ b r q _).1 hm
    refine ⟨c, by rw [hp, ← hc]; rfl, fun k => ?_⟩
    have h := hmem k
    rw [← hc] at h
    rcases h with h | ⟨h, h'⟩
    · exact Or.inl h
    · refine Or.inr ⟨h, ?_⟩
      have e : ∀ i : Fin 19, (BitVec.ofNat 32 i.val).toInt = (i.val : ℤ) := fun i => StableHlo.Predicate.toInt_ofNat_small _ (by omega)
      have h'' : (BitVec.ofNat 32 c.val).toInt ≤ (BitVec.ofNat 32 k.val).toInt := h'
      rw [e, e] at h''
      omega

end Cert.ReferenceIdeal.Term
-- ==== Proof.Inputs.lean ====
/- What the precondition says of the scores and the targets. -/
module

public import proofs.«01_k».proof.Pre_inputs_ok
public import proofs.«01_k».proof.Proof.Gen.Pre_inputs_ok
public import proofs.«01_k».proof.Proof.RefCount
public import proofs.«01_k».proof.Proof.Argmax

@[expose] public section

noncomputable section

namespace Cert.Inputs

open Cert.Pre_inputs_ok Cert.Pre_inputs_ok.Facts Idealize.ShloMosaic Idealize.ShloMosaic.TcCoe Idealize.SL.Sem

variable [Cert.Pre_inputs_ok.Facts]

/-- Bits added as words of 32 bits count the ones. -/
theorem fold_bits (w : Fin 19 → BitVec 1) (s : Finset (Fin 19)) :
    Finset.fold IntOp.addi 0#32 (fun k => (w k).setWidth 32) s = BitVec.ofNat 32 (∑ k ∈ s, (w k).toNat) := by
  induction s using Finset.induction_on with
  | empty => rfl
  | insert a s ha ih =>
    rw [Finset.fold_insert ha, ih, Finset.sum_insert ha, BitVec.ofNat_add]
    refine congrArg (IntOp.addi · _) ?_
    refine BitVec.eq_of_toNat_eq ?_
    rw [BitVec.toNat_setWidth, BitVec.toNat_ofNat]

/-- That count is zero just where there is no one. -/
theorem fold_bits_zero (w : Fin 19 → BitVec 1) :
    Finset.fold IntOp.addi 0#32 (fun k => (w k).setWidth 32) Finset.univ = 0#32 ↔ ∀ k, w k ≠ 1#1 := by
  have hle : ∀ k, (w k).toNat ≤ 1 := fun k => Nat.lt_succ_iff.1 (w k).isLt
  have hsum : ∑ k : Fin 19, (w k).toNat ≤ 19 := by
    refine (Finset.sum_le_card_nsmul Finset.univ _ 1 fun k _ => hle k).trans ?_
    rw [Finset.card_univ, Fintype.card_fin, smul_eq_mul]
  rw [fold_bits]
  constructor
  · intro h k hk
    have h' := congrArg BitVec.toNat h
    rw [BitVec.toNat_ofNat, BitVec.toNat_ofNat, Nat.zero_mod, Nat.mod_eq_of_lt (by omega)] at h'
    have h0 := (Finset.sum_eq_zero_iff.1 h') k (Finset.mem_univ k)
    rw [hk] at h0
    exact absurd h0 (by decide)
  · intro h
    have h0 : ∑ k : Fin 19, (w k).toNat = 0 := by
      refine Finset.sum_eq_zero fun k _ => ?_
      have h1 := hle k
      by_contra h2
      exact h k (BitVec.eq_of_toNat_eq (by show (w k).toNat = 1; omega))
    rw [h0]

/-- The top score of each pixel, spread over the classes. -/
def level (A : FVec Ideal S8x19x512x512 .f32) : FVec Ideal S8x19x512x512 .f32 :=
  broadcastInDim S8x19x512x512 ![0, 1, 2, 3] bcast_S8x1x512x512_S8x19x512x512_0_1_2_3
    (broadcastInDim S8x1x512x512 ![0, 2, 3] bcast_S8x512x512_S8x1x512x512_0_2_3
      (Host.reduce FloatOps.maximumf A (constant (F := Ideal) S_ .f32 0xFF800000#32) reducesTo_S8x19x512x512_S8x512x512_d1 h_S_))

/-- The targets, spread over the classes. -/
def marks (B : IVec S8x512x512 32) : IVec S8x19x512x512 32 :=
  broadcastInDim S8x19x512x512 ![0, 1, 2, 3] bcast_S8x1x512x512_S8x19x512x512_0_1_2_3
    (broadcastInDim S8x1x512x512 ![0, 2, 3] bcast_S8x512x512_S8x1x512x512_0_2_3 B)

/-- How many bits of a pixel are one. -/
def ones (W : IVec S8x19x512x512 1) : IVec S8x512x512 32 :=
  Host.reduce IntOp.addi (extui 32 W natLt_1_32) (constantI S_ 32 0#32) reducesTo_S8x19x512x512_S8x512x512_d1 h_S_

/-- The first part of the precondition, spelt out. -/
theorem finite_eq (A : FVec Ideal S8x19x512x512 .f32) (B : IVec S8x512x512 32) : (fn (F := Ideal) A B).1
    = cmpf .olt (Host.absf A) (broadcastInDim S8x19x512x512 ![] bcast_S_S8x19x512x512 (constant (F := Ideal) S_ .f32 0x7F800000#32)) := rfl

/-- The second part. -/
theorem range_eq (A : FVec Ideal S8x19x512x512 .f32) (B : IVec S8x512x512 32) : (fn (F := Ideal) A B).2.1
    = andi (cmpi .sge B (broadcastInDim S8x512x512 ![] bcast_S_S8x512x512 (constantI S_ 32 0#32)))
      (cmpi .slt B (broadcastInDim S8x512x512 ![] bcast_S_S8x512x512 (constantI S_ 32 19#32))) := rfl

/-- The third part. -/
theorem untied_eq (A : FVec Ideal S8x19x512x512 .f32) (B : IVec S8x512x512 32) : (fn (F := Ideal) A B).2.2
    = ori (cmpi .eq (ones (andi (cmpf .oeq A (level A)) (cmpi .eq (iotaInDim S8x19x512x512 32 1) (marks B))))
        (broadcastInDim S8x512x512 ![] bcast_S_S8x512x512 (constantI S_ 32 0#32)))
      (cmpi .eq (ones (andi (cmpf .oeq A (level A)) (cmpi .slt (iotaInDim S8x19x512x512 32 1) (marks B))))
        (broadcastInDim S8x512x512 ![] bcast_S_S8x512x512 (constantI S_ 32 0#32))) := rfl

/-- The count of a pixel is zero just where none of its bits is one. -/
theorem ones_zero (W : IVec S8x19x512x512 1) (b : Fin 8) (r q : Fin 512) : ones W (ix3 b r q) = 0#32 ↔ ∀ k : Fin 19, W (ix4 b k r q) ≠ 1#1 := by
  have h : ones W (ix3 b r q) = Finset.fold IntOp.addi 0#32 (fun k : Fin 19 => (W (ix4 b k r q)).setWidth 32) Finset.univ := by
    unfold ones
    simp -implicitDefEqProofs only [pointwise]
  rw [h]
  exact fold_bits_zero fun k => W (ix4 b k r q)

/-- An array spread over the classes, at a class. -/
theorem spread_apply {α : Type} (Y : S8x512x512.Idx → α) (b : Fin 8) (k : Fin 19) (r q : Fin 512) :
    broadcastInDim S8x19x512x512 ![0, 1, 2, 3] bcast_S8x1x512x512_S8x19x512x512_0_1_2_3
    (broadcastInDim S8x1x512x512 ![0, 2, 3] bcast_S8x512x512_S8x1x512x512_0_2_3 Y) (ix4 b k r q) = Y (ix3 b r q) := by
  pointwise []

/-- The targets, at a class. -/
theorem marks_apply (B : IVec S8x512x512 32) (b : Fin 8) (k : Fin 19) (r q : Fin 512) : marks B (ix4 b k r q) = B (ix3 b r q) :=
  spread_apply B b k r q

/-- The maximum over the classes, at a pixel. -/
theorem reduce_max (X : FVec Ideal S8x19x512x512 .f32) (c : FVec Ideal S_ .f32) (b : Fin 8) (r q : Fin 512) :
    Host.reduce FloatOps.maximumf X c reducesTo_S8x19x512x512_S8x512x512_d1 h_S_ (ix3 b r q)
      = Finset.fold max (c (Shape.Idx.first h_S_)) (fun k : Fin 19 => X (ix4 b k r q)) Finset.univ := by
  simp -implicitDefEqProofs only [pointwise]

/-- The top score, at a class. -/
theorem level_apply (A : FVec Ideal S8x19x512x512 .f32) (b : Fin 8) (k : Fin 19) (r q : Fin 512) (y : ℕ → ℝ)
    (h : ∀ i : Fin 19, A (ix4 b i r q) = ((y i : ℝ) : EReal)) : level A (ix4 b k r q) = ((Cert.KernelIdeal.Block.topTo y 18 : ℝ) : EReal) := by
  unfold level
  rw [spread_apply, reduce_max, ← Cert.ReferenceIdeal.Term.fold_top (fun i => A (ix4 b i r q)) y h]
  have hbot : Ideal.ofBits FTy.f32 4286578688#32 = (⊥ : EReal) := by simp [Ideal.ofBits, Ideal.ieee]
  rw [hbot, max_eq_right bot_le]
  exact congrArg (fun z => Finset.fold max z (fun i : Fin 19 => A (ix4 b i r q)) Finset.univ) hbot

/-- A score the first part allows is a real number. -/
theorem finite_apply (A : FVec Ideal S8x19x512x512 .f32) (B : IVec S8x512x512 32) (h : (fn (F := Ideal) A B).1 = fun _ => 1#1)
    (b : Fin 8) (k : Fin 19) (r q : Fin 512) : A (ix4 b k r q) = (((A (ix4 b k r q)).toReal : ℝ) : EReal) := by
  have h1 := congrFun h (ix4 b k r q)
  rw [finite_eq] at h1
  have hinf : Ideal.ofBits FTy.f32 0x7F800000#32 = (⊤ : EReal) := by simp [Ideal.ofBits, Ideal.ieee]
  have h2 : Ideal.cmp .olt (max (A (ix4 b k r q)) (-A (ix4 b k r q))) (Ideal.ofBits FTy.f32 0x7F800000#32) = 1#1 := h1
  rw [hinf] at h2
  generalize A (ix4 b k r q) = v at h2
  have h3 : max v (-v) < (⊤ : EReal) := by
    by_contra hn
    have h4 : Ideal.cmp .olt (max v (-v)) (⊤ : EReal) = BitVec.ofBool (decide (max v (-v) < (⊤ : EReal))) := rfl
    rw [h4, decide_eq_false hn] at h2
    exact absurd h2 (by decide)
  refine (EReal.coe_toReal (fun hv => ?_) fun hv => ?_).symm
  · rw [hv] at h3
    exact absurd (lt_of_le_of_lt (le_max_left _ _) h3) (lt_irrefl _)
  · rw [hv] at h3
    exact absurd (lt_of_le_of_lt (le_max_right _ _) h3) (by simp)

/-- A target the second part allows is a class. -/
theorem range_apply (A : FVec Ideal S8x19x512x512 .f32) (B : IVec S8x512x512 32) (h : (fn (F := Ideal) A B).2.1 = fun _ => 1#1)
    (b : Fin 8) (r q : Fin 512) : B (ix3 b r q) = BitVec.ofNat 32 (B (ix3 b r q)).toNat ∧ (B (ix3 b r q)).toNat < 19 := by
  have h1 := congrFun h (ix3 b r q)
  rw [range_eq] at h1
  have h2 : IntOp.andi (IntOp.cmpi .sge (B (ix3 b r q)) 0#32) (IntOp.cmpi .slt (B (ix3 b r q)) 19#32) = 1#1 := h1
  generalize B (ix3 b r q) = v at h2
  refine ⟨BitVec.eq_of_toNat_eq (by rw [BitVec.toNat_ofNat, Nat.mod_eq_of_lt v.isLt]), ?_⟩
  rw [IntOp.andi_eq_one, IntOp.cmpi_sge, IntOp.cmpi_slt] at h2
  have e0 : (0#32).toInt = 0 := by decide
  have e1 : (19#32).toInt = 19 := by decide
  rw [e0, e1, BitVec.toInt_eq_toNat_cond] at h2
  have hv := v.isLt
  split at h2 <;> omega

/-- Where the target has the top score, no class before it has. -/
theorem untied_apply (A : FVec Ideal S8x19x512x512 .f32) (B : IVec S8x512x512 32) (h : (fn (F := Ideal) A B).2.2 = fun _ => 1#1)
    (b : Fin 8) (r q : Fin 512) (y : ℕ → ℝ) (hy : ∀ i : Fin 19, A (ix4 b i r q) = ((y i : ℝ) : EReal)) (t : Fin 19) (ht : B (ix3 b r q) = BitVec.ofNat 32 t.val)
    (htop : y t = Cert.KernelIdeal.Block.topTo y 18) (k : Fin 19) (hk : k.val < t.val) : y k ≠ Cert.KernelIdeal.Block.topTo y 18 := by
  intro hyk
  have h1 := congrFun h (ix3 b r q)
  rw [untied_eq] at h1
  have e : ∀ i : Fin 19, (BitVec.ofNat 32 i.val).toInt = (i.val : ℤ) := fun i => StableHlo.Predicate.toInt_ofNat_small _ (by omega)
  have hl : ∀ i : Fin 19, y i = Cert.KernelIdeal.Block.topTo y 18 → cmpf .oeq A (level A) (ix4 b i r q) = 1#1 := by
    intro i hi
    have hA' : A (ix4 b i r q) = level A (ix4 b i r q) := by rw [level_apply A b i r q y hy, hy, hi]
    show Ideal.cmp .oeq (A (ix4 b i r q)) (level A (ix4 b i r q)) = 1#1
    rw [hA']
    simp [Ideal.cmp]
  have h2 : IntOp.ori
      (IntOp.cmpi .eq (ones (andi (cmpf .oeq A (level A)) (cmpi .eq (iotaInDim S8x19x512x512 32 1) (marks B))) (ix3 b r q)) 0#32)
      (IntOp.cmpi .eq (ones (andi (cmpf .oeq A (level A)) (cmpi .slt (iotaInDim S8x19x512x512 32 1) (marks B))) (ix3 b r q)) 0#32) = 1#1 := h1
  rw [IntOp.ori_eq_one, IntOp.cmpi_eq, IntOp.cmpi_eq, ones_zero, ones_zero] at h2
  rcases h2 with h2 | h2
  · refine h2 t ?_
    show IntOp.andi (cmpf .oeq A (level A) (ix4 b t r q)) (IntOp.cmpi .eq (BitVec.ofNat 32 t.val) (marks B (ix4 b t r q))) = 1#1
    rw [hl t htop, marks_apply, ht, IntOp.andi_eq_one]
    exact ⟨rfl, IntOp.cmpi_eq.2 rfl⟩
  · refine h2 k ?_
    show IntOp.andi (cmpf .oeq A (level A) (ix4 b k r q)) (IntOp.cmpi .slt (BitVec.ofNat 32 k.val) (marks B (ix4 b k r q))) = 1#1
    rw [hl k hyk, marks_apply, ht, IntOp.andi_eq_one]
    refine ⟨rfl, IntOp.cmpi_slt.2 ?_⟩
    rw [e, e]
    exact_mod_cast hk

/-- The scores as real numbers of four natural numbers. -/
def scores (A : FVec Ideal S8x19x512x512 .f32) (b k r q : ℕ) : ℝ :=
  (A (ix4 (Fin.ofNat 8 b) (Fin.ofNat 19 k) (Fin.ofNat 512 r) (Fin.ofNat 512 q))).toReal

/-- The targets as natural numbers of three. -/
def classes (B : IVec S8x512x512 32) (b r q : ℕ) : ℕ := (B (ix3 (Fin.ofNat 8 b) (Fin.ofNat 512 r) (Fin.ofNat 512 q))).toNat

/-- A number below a bound is itself modulo the bound. -/
theorem ofNat_val {n : ℕ} [NeZero n] (i : Fin n) : Fin.ofNat n i.val = i := Fin.ext (Nat.mod_eq_of_lt i.isLt)

section

variable (A : FVec Ideal S8x19x512x512 .f32) (B : IVec S8x512x512 32)
  (h1 : (fn (F := Ideal) A B).1 = fun _ => 1#1) (h2 : (fn (F := Ideal) A B).2.1 = fun _ => 1#1) (h3 : (fn (F := Ideal) A B).2.2 = fun _ => 1#1)

include h1 in
/-- The scores are those real numbers. -/
theorem scores_apply (b : Fin 8) (k : Fin 19) (r q : Fin 512) : A (ix4 b k r q) = ((scores A b k r q : ℝ) : EReal) := by
  unfold scores
  rw [ofNat_val, ofNat_val, ofNat_val, ofNat_val]
  exact finite_apply A B h1 b k r q

include h2 in
/-- The targets are those natural numbers, all of them classes. -/
theorem classes_apply (b : Fin 8) (r q : Fin 512) : B (ix3 b r q) = BitVec.ofNat 32 (classes B b r q) ∧ classes B b r q < 19 := by
  unfold classes
  rw [ofNat_val, ofNat_val, ofNat_val]
  exact range_apply A B h2 b r q

include h2 in
/-- Every one of those numbers is a class. -/
theorem classes_lt (b r q : ℕ) : classes B b r q < 19 := (range_apply A B h2 _ _ _).2

include h1 h2 h3 in
/-- The prediction is the target just where the target has the top score. -/
theorem pred_iff (b : Fin 8) (r q : Fin 512) : Cert.ReferenceIdeal.Term.pred A (ix3 b r q) = B (ix3 b r q)
    ↔ scores A b (classes B b r q) r q = Cert.Sums.best (scores A) b r q := by
  obtain ⟨hB, hlt⟩ := classes_apply A B h2 b r q
  have hx := fun k => scores_apply A B h1 b k r q
  obtain ⟨c, hc, hmax⟩ := Cert.ReferenceIdeal.Term.pred_spec A b r q fun k => by
    rw [hx]
    exact EReal.bot_lt_coe _
  have hle : ∀ k : Fin 19, scores A b k r q ≤ scores A b c r q := by
    intro k
    have h := hmax k
    rw [hx, hx] at h
    rcases h with h | ⟨h, -⟩
    · exact (EReal.coe_lt_coe_iff.1 h).le
    · exact (EReal.coe_eq_coe_iff.1 h).le
  have hcb : scores A b c r q = Cert.Sums.best (scores A) b r q := by
    obtain ⟨i, hi, he⟩ := Cert.KernelIdeal.Block.topTo_mem (fun i => scores A b i r q) 18
    refine le_antisymm (Cert.KernelIdeal.Block.le_topTo (fun i => scores A b i r q) 18 c (by omega)) ?_
    unfold Cert.Sums.best
    rw [he]
    exact hle ⟨i, by omega⟩
  rw [hc, hB]
  constructor
  · intro h
    have h' := congrArg BitVec.toNat h
    rw [BitVec.toNat_ofNat, BitVec.toNat_ofNat, Nat.mod_eq_of_lt (by omega), Nat.mod_eq_of_lt (by omega)] at h'
    rw [← h', hcb]
  · intro h
    refine congrArg (BitVec.ofNat 32) ?_
    have hge : ¬ c.val < classes B b r q := fun hlt' =>
      untied_apply A B h3 b r q (fun i => scores A b i r q) hx ⟨classes B b r q, hlt⟩ hB h c hlt' hcb
    have h' := hmax ⟨classes B b r q, hlt⟩
    rw [hx, hx] at h'
    rcases h' with h' | ⟨-, h'⟩
    · have h'' := EReal.coe_lt_coe_iff.1 h'
      rw [hcb] at h''
      exact absurd h (ne_of_lt h'')
    · have h'' : c.val ≤ classes B b r q := h'
      omega

end

end Cert.Inputs
-- ==== Proof.lean ====
/- The claims about the kernel and the reference, assembled: the frames, the named constants, and the equation of the two
   programs' results at the ideal numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import Idealize.ShloMosaic.Lib.Claim
public import Idealize.ShloMosaic.Lib.Quiescent
public import proofs.«01_k».proof.Proof.Gen.Pre_inputs_ok
public import Idealize.ShloMosaic.Adequacy
public import Idealize.ShloMosaic.Init

public import proofs.«01_k».proof.Proof.Fold
public import proofs.«01_k».proof.Proof.Close
public import proofs.«01_k».proof.Proof.RefRun
public import proofs.«01_k».proof.Proof.RefCount
public import proofs.«01_k».proof.Proof.Inputs

@[expose] public section

noncomputable section

namespace Cert.Proof

open Idealize.ShloMosaic Idealize.SL.Sem Cert.Kernel

/-- Every run of the idealized reference ends, its arguments as they were and its semaphores at zero. -/
theorem reference_quiescent [Cert.ReferenceIdeal.Facts] : Cert.quiescent_ReferenceIdeal := by
  intro m g _
  refine θ_run_mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
    ?_ fun r h => ⟨h, sem_eq_zero_of_no_sems rfl _⟩
  hlo_run

/-- The kernel's result is the reference's: both are the mean weighted loss. -/
theorem values_agree (m : (ℓ : Loc Cert.KernelIdeal.nD Cert.KernelIdeal.τ Cert.KernelIdeal.sig) → Buf (Elt Ideal) ℓ) (c : Dev Cert.KernelIdeal.nD)
    (A : FVec Ideal Cert.ReferenceIdeal.S8x19x512x512 .f32) (B : IVec Cert.ReferenceIdeal.S8x512x512 32)
    (hA : m ((c.tc : Thread Cert.KernelIdeal.nD Cert.KernelIdeal.τ).loc Cert.KernelIdeal.main_arg0) = A)
    (hB : m ((c.tc : Thread Cert.KernelIdeal.nD Cert.KernelIdeal.τ).loc Cert.KernelIdeal.main_arg1) = B)
    [Cert.Pre_inputs_ok.Facts] (h1 : (Cert.Pre_inputs_ok.fn (F := Ideal) A B).1 = fun _ => 1#1)
    (h2 : (Cert.Pre_inputs_ok.fn (F := Ideal) A B).2.1 = fun _ => 1#1) (h3 : (Cert.Pre_inputs_ok.fn (F := Ideal) A B).2.2 = fun _ => 1#1) :
    Cert.KernelIdeal.Value.G2 m c = Cert.ReferenceIdeal.Term.result A B := by
  have hx := Cert.Inputs.scores_apply A B h1
  have hg := Cert.Inputs.classes_apply A B h2
  obtain ⟨gt, ok, cs, hG, hgt, hok, hcs⟩ := Cert.KernelIdeal.Fold.result_eq m c (Cert.Inputs.scores A) (Cert.Inputs.classes B)
    (fun b k r q => (congrFun hA (ix4 b k r q)).trans (hx b k r q)) (fun b r q => ⟨(congrFun hB (ix3 b r q)).trans (hg b r q).1, (hg b r q).2⟩)
  rw [hG]
  refine funext fun y => ?_
  have hy : y = ix2 0 0 := by
    rw [eq_ix2 y]
    exact congrArg₂ ix2 (Subsingleton.elim (α := Fin 1) _ _) (Subsingleton.elim (α := Fin 1) _ _)
  refine (Cert.KernelIdeal.Block.pay4_mean gt ok cs _ _ hgt hok hcs y).trans ?_
  rw [hy]
  exact (Cert.ReferenceIdeal.Term.result_apply A B _ _ hg (Cert.Inputs.pred_iff A B h1 h2 h3) hx fun b r q _ _ _ => Cert.Inputs.classes_lt A B h2 b r q).symm

/-- The idealized kernel and the idealized reference leave the same result. -/
theorem results_equal [Cert.Pre_inputs_ok.Facts] : Cert.algebraic_KernelIdeal_ReferenceIdeal_pre_inputs_ok := by
  intro m g m' g' hpre hagree
  refine ⟨fun c => Cert.KernelIdeal.Value.G2 m c, Cert.KernelIdeal.Value.run m g, ?_⟩
  refine θ_run_mono (Cert.ReferenceIdeal.Term.run m' g') fun r h c => ⟨?_, (h c).2⟩
  refine (h c).1.trans ?_
  rw [(hagree c).1, (hagree c).2]
  exact (values_agree m c _ _ rfl rfl (hpre c).1 (hpre c).2.1 (hpre c).2.2).symm

/-- All the claims. -/
theorem claim : Cert.Claim := ⟨Cert.Kernel.Gen.facts, Cert.KernelIdeal.Gen.facts, Cert.ReferenceIdeal.Gen.facts, Cert.Pre_inputs_ok.Gen.facts,
  fun m g _ => Cert.Kernel.Gen.frame m g, fun m g _ => Cert.KernelIdeal.Gen.frame m g, fun m g _ => Cert.KernelIdeal.Gen.frame m g,
  reference_quiescent, fun m g _ => reference_quiescent m g trivial,
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩, results_equal⟩

end Cert.Proof

end
